-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x128x256x256 : Shape := ⟨4, ![3, 128, 256, 256]⟩
abbrev S384x65536 : Shape := ⟨2, ![384, 65536]⟩
abbrev S96x65536 : Shape := ⟨2, ![96, 65536]⟩
abbrev S114688 : Shape := ⟨1, ![114688]⟩
abbrev S7 : Shape := ⟨1, ![7]⟩
abbrev S16384 : Shape := ⟨1, ![16384]⟩
abbrev S1x16384 : Shape := ⟨2, ![1, 16384]⟩
abbrev S1 : Shape := ⟨1, ![1]⟩
abbrev S_ : Shape := ⟨0, ![]⟩
abbrev S3x32x256x256 : Shape := ⟨4, ![3, 32, 256, 256]⟩

abbrev nBuf : Table → Nat
  | .hbm => 4
  | .local .scVector .vmem => 1
  | _ => 0

abbrev bufTy : (tb : Table) → Fin (nBuf tb) → BufTy
  | .hbm, ⟨0, _⟩ => ⟨S3x128x256x256, .f32⟩
  | .hbm, ⟨1, _⟩ => ⟨S384x65536, .f32⟩
  | .hbm, ⟨2, _⟩ => ⟨S96x65536, .f32⟩
  | .hbm, ⟨3, _⟩ => ⟨S3x32x256x256, .f32⟩
  | .local .scVector .vmem, ⟨0, _⟩ => ⟨S114688, .f32⟩
  | _, _ => ⟨S3x128x256x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c128_i32 : BitVec 32 := 128#32
  let v49 : BitVec 32 := Scalar.muli v20 c128_i32
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c127_i32 : BitVec 32 := 127#32
  let v31 : BitVec 32 := Scalar.muli v30 c127_i32
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c31_i32 : BitVec 32 := 31#32
  let c0_i32_13 : BitVec 32 := 0#32
  let v38 : BitVec 1 := Scalar.cmpi .sgt c31_i32 c0_i32_13
  let v39 : BitVec 32 := Scalar.extui v38
  let c0_i32_14 : BitVec 32 := 0#32
  let v40 : BitVec 1 := Scalar.cmpi .slt c31_i32 c0_i32_14
  let v41 : BitVec 32 := Scalar.extui v40
  let v42 : BitVec 32 := Scalar.subi v39 v41
  let v43 : BitVec 1 := Scalar.cmpi .ne v37 v42
  let v44 : BitVec 32 := Scalar.remsi v31 c31_i32
  let c0_i32_15 : BitVec 32 := 0#32
  let v45 : BitVec 1 := Scalar.cmpi .ne v44 c0_i32_15
  let v46 : BitVec 1 := Scalar.andi v43 v45
  let v32 : BitVec 32 := Scalar.divsi v31 c31_i32
  let c1_i32_16 : BitVec 32 := 1#32
  let v47 : BitVec 32 := Scalar.subi v32 c1_i32_16
  let v48 : BitVec 32 := Scalar.select v46 v47 v32
  let v50 : BitVec 32 := Scalar.addi v49 v48
  let c0_i32_67 : BitVec 32 := 0#32
  ![v50.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c128_i32 : BitVec 32 := 128#32
  let v49 : BitVec 32 := Scalar.muli v20 c128_i32
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c127_i32 : BitVec 32 := 127#32
  let v31 : BitVec 32 := Scalar.muli v30 c127_i32
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c31_i32 : BitVec 32 := 31#32
  let c0_i32_13 : BitVec 32 := 0#32
  let v38 : BitVec 1 := Scalar.cmpi .sgt c31_i32 c0_i32_13
  let v39 : BitVec 32 := Scalar.extui v38
  let c0_i32_14 : BitVec 32 := 0#32
  let v40 : BitVec 1 := Scalar.cmpi .slt c31_i32 c0_i32_14
  let v41 : BitVec 32 := Scalar.extui v40
  let v42 : BitVec 32 := Scalar.subi v39 v41
  let v43 : BitVec 1 := Scalar.cmpi .ne v37 v42
  let v44 : BitVec 32 := Scalar.remsi v31 c31_i32
  let c0_i32_15 : BitVec 32 := 0#32
  let v45 : BitVec 1 := Scalar.cmpi .ne v44 c0_i32_15
  let v46 : BitVec 1 := Scalar.andi v43 v45
  let v32 : BitVec 32 := Scalar.divsi v31 c31_i32
  let c1_i32_16 : BitVec 32 := 1#32
  let v47 : BitVec 32 := Scalar.subi v32 c1_i32_16
  let v48 : BitVec 32 := Scalar.select v46 v47 v32
  let v50 : BitVec 32 := Scalar.addi v49 v48
  let c16384_i32_71 : BitVec 32 := 16384#32
  ![v50.toNat, 16384]
def k0_off3 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c128_i32 : BitVec 32 := 128#32
  let v49 : BitVec 32 := Scalar.muli v20 c128_i32
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c127_i32 : BitVec 32 := 127#32
  let v31 : BitVec 32 := Scalar.muli v30 c127_i32
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c31_i32 : BitVec 32 := 31#32
  let c0_i32_13 : BitVec 32 := 0#32
  let v38 : BitVec 1 := Scalar.cmpi .sgt c31_i32 c0_i32_13
  let v39 : BitVec 32 := Scalar.extui v38
  let c0_i32_14 : BitVec 32 := 0#32
  let v40 : BitVec 1 := Scalar.cmpi .slt c31_i32 c0_i32_14
  let v41 : BitVec 32 := Scalar.extui v40
  let v42 : BitVec 32 := Scalar.subi v39 v41
  let v43 : BitVec 1 := Scalar.cmpi .ne v37 v42
  let v44 : BitVec 32 := Scalar.remsi v31 c31_i32
  let c0_i32_15 : BitVec 32 := 0#32
  let v45 : BitVec 1 := Scalar.cmpi .ne v44 c0_i32_15
  let v46 : BitVec 1 := Scalar.andi v43 v45
  let v32 : BitVec 32 := Scalar.divsi v31 c31_i32
  let c1_i32_16 : BitVec 32 := 1#32
  let v47 : BitVec 32 := Scalar.subi v32 c1_i32_16
  let v48 : BitVec 32 := Scalar.select v46 v47 v32
  let v50 : BitVec 32 := Scalar.addi v49 v48
  let c32768_i32_75 : BitVec 32 := 32768#32
  ![v50.toNat, 32768]
def k0_off4 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c32_i32 : BitVec 32 := 32#32
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c128_i32 : BitVec 32 := 128#32
  let v49 : BitVec 32 := Scalar.muli v20 c128_i32
  let c32_i32_5 : BitVec 32 := 32#32
  let c0_i32_6 : BitVec 32 := 0#32
  let v21 : BitVec 1 := Scalar.cmpi .eq c32_i32_5 c0_i32_6
  let c1_i32_7 : BitVec 32 := 1#32
  let v22 : BitVec 32 := Scalar.select v21 c1_i32_7 c32_i32_5
  let v23 : BitVec 32 := Scalar.remsi v3 v22
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let c0_i32_8 : BitVec 32 := 0#32
  let v24 : BitVec 1 := Scalar.cmpi .ne v23 c0_i32_8
  let v28 : BitVec 1 := Scalar.andi v27 v24
  let v29 : BitVec 32 := Scalar.addi v23 v22
  let v30 : BitVec 32 := Scalar.select v28 v29 v23
  let c127_i32 : BitVec 32 := 127#32
  let v31 : BitVec 32 := Scalar.muli v30 c127_i32
  let c0_i32_11 : BitVec 32 := 0#32
  let v33 : BitVec 1 := Scalar.cmpi .sgt v31 c0_i32_11
  let v34 : BitVec 32 := Scalar.extui v33
  let c0_i32_12 : BitVec 32 := 0#32
  let v35 : BitVec 1 := Scalar.cmpi .slt v31 c0_i32_12
  let v36 : BitVec 32 := Scalar.extui v35
  let v37 : BitVec 32 := Scalar.subi v34 v36
  let c31_i32 : BitVec 32 := 31#32
  let c0_i32_13 : BitVec 32 := 0#32
  let v38 : BitVec 1 := Scalar.cmpi .sgt c31_i32 c0_i32_13
  let v39 : BitVec 32 := Scalar.extui v38
  let c0_i32_14 : BitVec 32 := 0#32
  let v40 : BitVec 1 := Scalar.cmpi .slt c31_i32 c0_i32_14
  let v41 : BitVec 32 := Scalar.extui v40
  let v42 : BitVec 32 := Scalar.subi v39 v41
  let v43 : BitVec 1 := Scalar.cmpi .ne v37 v42
  let v44 : BitVec 32 := Scalar.remsi v31 c31_i32
  let c0_i32_15 : BitVec 32 := 0#32
  let v45 : BitVec 1 := Scalar.cmpi .ne v44 c0_i32_15
  let v46 : BitVec 1 := Scalar.andi v43 v45
  let v32 : BitVec 32 := Scalar.divsi v31 c31_i32
  let c1_i32_16 : BitVec 32 := 1#32
  let v47 : BitVec 32 := Scalar.subi v32 c1_i32_16
  let v48 : BitVec 32 := Scalar.select v46 v47 v32
  let v50 : BitVec 32 := Scalar.addi v49 v48
  let c49152_i32_79 : BitVec 32 := 49152#32
  ![v50.toNat, 49152]
def k0_off5 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c0_i32_98 : BitVec 32 := 0#32
  ![v3.toNat, 0]
def k0_off6 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c16384_i32_118 : BitVec 32 := 16384#32
  ![v3.toNat, 16384]
def k0_off7 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c32768_i32_138 : BitVec 32 := 32768#32
  ![v3.toNat, 32768]
def k0_off8 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3_i32 : BitVec 32 := 3#32
  let v2 : BitVec 32 := Scalar.muli v1 c3_i32
  let v3 : BitVec 32 := Scalar.addi v2 c0_i32
  let c49152_i32_158 : BitVec 32 := 49152#32
  ![v3.toNat, 49152]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3x128x256x256 : Shape := ⟨4, ![3, 128, 256, 256]⟩
abbrev S_ : Shape := ⟨0, ![]⟩
abbrev S31 : Shape := ⟨1, ![31]⟩
abbrev S1 : Shape := ⟨1, ![1]⟩
abbrev S32 : Shape := ⟨1, ![32]⟩
abbrev S32x1 : Shape := ⟨2, ![32, 1]⟩
abbrev S1x1 : Shape := ⟨2, ![1, 1]⟩
abbrev S3x32x256x256 : Shape := ⟨4, ![3, 32, 256, 256]⟩

abbrev nBuf : Space → Nat
  | .hbm => 56
  | .vmem => 0
  | .smem => 0
  | _ => 0

abbrev bufTy : (tb : Table) → Fin (tcTables nBuf tb) → BufTy
  | .hbm, ⟨0, _⟩ => ⟨S3x128x256x256, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S31, .f32⟩
  | .hbm, ⟨9, _⟩ => ⟨S_, .f32⟩
  | .hbm, ⟨10, _⟩ => ⟨S31, .f32⟩
  | .hbm, ⟨11, _⟩ => ⟨S31, .f32⟩
  | .hbm, ⟨12, _⟩ => ⟨S1, .f32⟩
  | .hbm, ⟨13, _⟩ => ⟨S_, .f32⟩
  | .hbm, ⟨14, _⟩ => ⟨S31, .f32⟩
  | .hbm, ⟨15, _⟩ => ⟨S31, .f32⟩
  | .hbm, ⟨16, _⟩ => ⟨S31, .f32⟩
  | .hbm, ⟨17, _⟩ => ⟨S31, .f32⟩
  | .hbm, ⟨18, _⟩ => ⟨S1, .f32⟩
  | .hbm, ⟨19, _⟩ => ⟨S31, .f32⟩
  | .hbm, ⟨20, _⟩ => ⟨S31, .f32⟩
  | .hbm, ⟨21, _⟩ => ⟨S31, .f32⟩
  | .hbm, ⟨22, _⟩ => ⟨S1, .f32⟩
  | .hbm, ⟨23, _⟩ => ⟨S32, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i1⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S32, .i32⟩
  | .hbm, ⟨40, _⟩ => ⟨S32x1, .i32⟩
  | .hbm, ⟨41, _⟩ => ⟨S1, .i32⟩
  | .hbm, ⟨42, _⟩ => ⟨S_, .i32⟩
  | .hbm, ⟨43, _⟩ => ⟨S32x1, .i32⟩
  | .hbm, ⟨44, _⟩ => ⟨S32x1, .i1⟩
  | .hbm, ⟨45, _⟩ => ⟨S1x1, .i32⟩
  | .hbm, ⟨46, _⟩ => ⟨S32x1, .i32⟩
  | .hbm, ⟨47, _⟩ => ⟨S32x1, .i1⟩
  | .hbm, ⟨48, _⟩ => ⟨S32x1, .i1⟩
  | .hbm, ⟨49, _⟩ => ⟨S_, .i1⟩
  | .hbm, ⟨50, _⟩ => ⟨S32, .i1⟩
  | .hbm, ⟨51, _⟩ => ⟨S3x32x256x256, .f32⟩
  | .hbm, ⟨52, _⟩ => ⟨S3x32x256x256, .i1⟩
  | .hbm, ⟨53, _⟩ => ⟨S_, .f32⟩
  | .hbm, ⟨54, _⟩ => ⟨S3x32x256x256, .f32⟩
  | .hbm, ⟨55, _⟩ => ⟨S3x32x256x256, .f32⟩
  | _, _ => ⟨S3x128x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_cst : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_cst_1 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_v0 : Ref sig .tc := ⟨.hbm, 23, rfl⟩
abbrev main_cst_1 : Ref sig .tc := ⟨.hbm, 24, rfl⟩
abbrev main_cst_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v1 : Ref sig .tc := ⟨.hbm, 31, rfl⟩
abbrev main_v2 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_call2_cst : Ref sig .tc := ⟨.hbm, 53, rfl⟩
abbrev main_call2_v15 : Ref sig .tc := ⟨.hbm, 54, rfl⟩
abbrev main_v3 : Ref sig .tc := ⟨.hbm, 55, rfl⟩

abbrev nD : Nat := 1
abbrev τ : Topo := Topo.v7x

variable {F : FTy → Type} [FloatOps F]
-- ==== Proof.Geometry.lean ====
/-
  The pieces the kernel's copies move. The input, its leading two axes flattened, is 384 rows of 65536 words (row
  `128 c + t` is frame `t` of channel `c`), the output 96 rows (row `32 c + j` is sample `j` of channel `c`). A tile
  `(core, subcore)` writes the three output rows `6 subcore + 3 core + k`, `k < 3`, each in four segments of 16384 words
  through a ring of seven slots in its own memory. Here: the ring's slots and the segments as the kernel's program spells
  them, the closed forms of their offsets, their elements, and the words a copy of a segment into a segment leaves.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Geometry

open Cert.KernelIdeal Cert.KernelIdeal.Gen
open Idealize.ShloMosaic

/-! ## The segments and the slots, as the program spells them -/

/-- One segment of a row of the flattened input. -/
abbrev xSeg (off : Fin 2 → Nat) (inb : ∀ a, off a + S1x16384.size a ≤ S384x65536.size a) : Memref sig .scVector .hbm S16384 .f32 :=
  ((Memref.whole main_v0_scv : Memref sig .scVector .hbm S384x65536 .f32).slice
    (Rect.unit (s := S384x65536) off S1x16384.size inb) (fun _ => rfl)).squeeze S16384 squeezes_S1x16384_S16384

/-- One segment of a row of the flattened output. -/
abbrev oSeg (off : Fin 2 → Nat) (inb : ∀ a, off a + S1x16384.size a ≤ S96x65536.size a) : Memref sig .scVector .hbm S16384 .f32 :=
  ((Memref.whole main_v1_scv : Memref sig .scVector .hbm S96x65536 .f32).slice
    (Rect.unit (s := S96x65536) off S1x16384.size inb) (fun _ => rfl)).squeeze S16384 squeezes_S1x16384_S16384

/-- One slot of the ring. -/
abbrev slot (off : Fin 1 → Nat) (inb : ∀ a, off a + S16384.size a ≤ S114688.size a) : Memref sig .scVector .vmem S16384 .f32 :=
  (Memref.whole cc0_scratch0 : Memref sig .scVector .vmem S114688 .f32).slice
    (Rect.unit (s := S114688) off S16384.size inb) (fun _ => rfl)

/-! ## Closed forms of the offsets -/

/-- The output row tile `(core, subcore)` writes as its `k`-th. -/
def rowOf (c s k : Nat) : Nat := 6 * s + 3 * c + k

/-- The row of the flattened input that row `r` of the output is a copy of: channel `r / 32`, frame `127 (r % 32) / 31`. -/
def srcRow (r : Nat) : Nat := r / 32 * 128 + r % 32 * 127 / 31

theorem off1_eq : ∀ (i : grid0.Coords) (k : Fin 3), k0_off1 i (BitVec.ofNat 32 k.val) = ![srcRow (rowOf (i 0).val (i 1).val k.val), 0] := by
  decide +kernel
theorem off2_eq : ∀ (i : grid0.Coords) (k : Fin 3), k0_off2 i (BitVec.ofNat 32 k.val) = ![srcRow (rowOf (i 0).val (i 1).val k.val), 16384] := by
  decide +kernel
theorem off3_eq : ∀ (i : grid0.Coords) (k : Fin 3), k0_off3 i (BitVec.ofNat 32 k.val) = ![srcRow (rowOf (i 0).val (i 1).val k.val), 32768] := by
  decide +kernel
theorem off4_eq : ∀ (i : grid0.Coords) (k : Fin 3), k0_off4 i (BitVec.ofNat 32 k.val) = ![srcRow (rowOf (i 0).val (i 1).val k.val), 49152] := by
  decide +kernel

/-! ## The elements of a segment and of a slot -/

/-- Segment `h` of row `r` of the flattened input. -/
def xSet (r h : Nat) : Finset S384x65536.Idx :=
  Finset.univ.filter fun i => (i 0).val = r ∧ 16384 * h ≤ (i 1).val ∧ (i 1).val < 16384 * h + 16384

/-- Segment `h` of row `r` of the flattened output. -/
def oSet (r h : Nat) : Finset S96x65536.Idx :=
  Finset.univ.filter fun i => (i 0).val = r ∧ 16384 * h ≤ (i 1).val ∧ (i 1).val < 16384 * h + 16384

/-- Slot `b` of the ring. -/
def slotSet (b : Nat) : Finset S114688.Idx :=
  Finset.univ.filter fun i => 16384 * b ≤ (i 0).val ∧ (i 0).val < 16384 * b + 16384

theorem set_xSeg {off : Fin 2 → Nat} {inb : ∀ a, off a + S1x16384.size a ≤ S384x65536.size a} {r h : Nat}
    (e : off = ![r, 16384 * h]) : (xSeg off inb).view.set = xSet r h := by
  subst e
  refine (View.set_reshape _ _).trans ((View.set_slice_whole _ _).trans ?_)
  ext i
  refine Rect.mem_set_unit.trans ?_
  rw [xSet, Finset.mem_filter]
  constructor
  · intro H
    have h0 : r ≤ (i 0).val ∧ (i 0).val < r + 1 := H 0
    have h1 : 16384 * h ≤ (i 1).val ∧ (i 1).val < 16384 * h + 16384 := H 1
    exact ⟨Finset.mem_univ _, by omega, h1⟩
  · rintro ⟨-, h0, h1⟩ a
    fin_cases a
    · show r ≤ (i 0).val ∧ (i 0).val < r + 1
      omega
    · exact h1

theorem set_oSeg {off : Fin 2 → Nat} {inb : ∀ a, off a + S1x16384.size a ≤ S96x65536.size a} {r h : Nat}
    (e : off = ![r, 16384 * h]) : (oSeg off inb).view.set = oSet r h := by
  subst e
  refine (View.set_reshape _ _).trans ((View.set_slice_whole _ _).trans ?_)
  ext i
  refine Rect.mem_set_unit.trans ?_
  rw [oSet, Finset.mem_filter]
  constructor
  · intro H
    have h0 : r ≤ (i 0).val ∧ (i 0).val < r + 1 := H 0
    have h1 : 16384 * h ≤ (i 1).val ∧ (i 1).val < 16384 * h + 16384 := H 1
    exact ⟨Finset.mem_univ _, by omega, h1⟩
  · rintro ⟨-, h0, h1⟩ a
    fin_cases a
    · show r ≤ (i 0).val ∧ (i 0).val < r + 1
      omega
    · exact h1

theorem set_slot {off : Fin 1 → Nat} {inb : ∀ a, off a + S16384.size a ≤ S114688.size a} {b : Nat}
    (e : off = ![16384 * b]) : (slot off inb).view.set = slotSet b := by
  subst e
  refine (View.set_slice_whole _ _).trans ?_
  ext i
  refine Rect.mem_set_unit.trans ?_
  rw [slotSet, Finset.mem_filter]
  constructor
  · exact fun H => ⟨Finset.mem_univ _, H 0⟩
  · rintro ⟨-, h0⟩ a
    fin_cases a
    exact h0

/-! ## The output as one function of the input -/

theorem srcRow_lt {r : Nat} (h : r < 96) : srcRow r < 384 := by unfold srcRow; omega

/-- The word of the flattened input that a word of the flattened output is a copy of. -/
def srcIdx (i : S96x65536.Idx) : S384x65536.Idx :=
  fun | 0 => ⟨srcRow (i 0).val, srcRow_lt (i 0).isLt⟩ | 1 => ⟨(i 1).val, (i 1).isLt⟩

/-- The flattened output: word `i` is word `srcIdx i` of the flattened input. -/
def OUT {α : Type} (x : S384x65536.Idx → α) : S96x65536.Idx → α := fun i => x (srcIdx i)

/-- Position `x` of a segment of an output row lies under position `x` of that segment of its source row. -/
theorem emb_seg {off off' : Fin 2 → Nat} {inb : ∀ a, off a + S1x16384.size a ≤ S384x65536.size a}
    {inb' : ∀ a, off' a + S1x16384.size a ≤ S96x65536.size a} {r c : Nat} (e : off = ![srcRow r, c]) (e' : off' = ![r, c])
    (x : S16384.Idx) : (xSeg off inb).view.emb x = srcIdx ((oSeg off' inb').view.emb x) := by
  subst e e'
  have hy : ∀ y : S1x16384.Idx, ((Rect.unit (s := S384x65536) ![srcRow r, c] S1x16384.size inb).emb y : S384x65536.Idx)
      = srcIdx ((Rect.unit (s := S96x65536) ![r, c] S1x16384.size inb').emb y) := by
    intro y
    have y0 : (y 0).val = 0 := Nat.lt_one_iff.mp (y 0).isLt
    funext a
    fin_cases a
    · refine Fin.ext ?_
      show srcRow r + 1 * (y 0).val = srcRow (r + 1 * (y 0).val)
      rw [y0, Nat.mul_zero, Nat.add_zero, Nat.add_zero]
    · exact Fin.ext rfl
  exact hy (Shape.reshapeEquiv squeezes_S1x16384_S16384.numel_eq x)

end Cert.Proof.Geometry

end
-- ==== Proof.Tile.lean ====
/-
  One tile's run. The tile holds its twelve segments of the flattened input and of the flattened output, the seven slots
  of its ring and the fourteen counters of its transfers, each by exactly its own elements; the run leaves every output
  segment at the words of `OUT`, and the ring and the counters ready for whoever comes next.
-/
module

public import proofs.«01_k».proof.Proof.Geometry

@[expose] public section

set_option maxRecDepth 16384

noncomputable section

namespace Cert.Proof.Tile

open Cert.KernelIdeal Cert.KernelIdeal.Gen Cert.Proof.Geometry
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resources -/

/-- The ghost state: the launch's handshakes, and the counters the tiles' own transfers draw on. -/
abbrev UH : Type := URounds (GSem nD τ sig) ℕ
abbrev UU : Type := UH × Counters

local notation "𝕄" => MT nD τ sig (HIx 1) (Elt F) ℕ UU ℕ

abbrev 𝒱₀ : Variants := Variants.none

/-- The flattened input and the flattened output of device `d`. -/
abbrev xLoc (d : Dev nD) : Loc nD τ sig := (SparseCore.T d).loc main_v0
abbrev oLoc (d : Dev nD) : Loc nD τ sig := (SparseCore.T d).loc main_v1

/-- The SparseCore and the vector subcore a point of the kernel's grid is. -/
abbrev cV (L : grid0.Coords) : Fin τ.nSC := (L 0).castLE hcore0
abbrev jV (L : grid0.Coords) : Fin τ.nSub := (L 1).castLE hsub0

/-- The thread holds exactly the elements of a memref, at contents `f`. -/
abbrev heldBy (thr : Thread nD τ) {sp : Space} {s : Shape} {e : EltTy} (m : Memref sig thr.2.kind sp s e) (q : PosShare TreeShare)
    (f : Buf (Elt F) (m.view.loc thr)) : sProp 𝕄 := m.view.loc thr ↦[m.view.set]{q} f

section Pieces

variable (d : Dev nD) (L : grid0.Coords)

/-- The tile's twelve input segments, row by row, at the flattened input's contents `xf`. -/
abbrev xPieces (xf : Buf (Elt F) (xLoc d)) : sProp 𝕄 :=
  iprop(heldBy (V d (cV L) (jV L)) (xSeg (k0_off1 L 0#32) (k0_off1_inb L 0)) fullShare xf
      ∗ heldBy (V d (cV L) (jV L)) (xSeg (k0_off2 L 0#32) (k0_off2_inb L 0)) fullShare xf
      ∗ heldBy (V d (cV L) (jV L)) (xSeg (k0_off3 L 0#32) (k0_off3_inb L 0)) fullShare xf
      ∗ heldBy (V d (cV L) (jV L)) (xSeg (k0_off4 L 0#32) (k0_off4_inb L 0)) fullShare xf
      ∗ heldBy (V d (cV L) (jV L)) (xSeg (k0_off1 L 1#32) (k0_off1_inb L 1)) fullShare xf
      ∗ heldBy (V d (cV L) (jV L)) (xSeg (k0_off2 L 1#32) (k0_off2_inb L 1)) fullShare xf
      ∗ heldBy (V d (cV L) (jV L)) (xSeg (k0_off3 L 1#32) (k0_off3_inb L 1)) fullShare xf
      ∗ heldBy (V d (cV L) (jV L)) (xSeg (k0_off4 L 1#32) (k0_off4_inb L 1)) fullShare xf
      ∗ heldBy (V d (cV L) (jV L)) (xSeg (k0_off1 L 2#32) (k0_off1_inb L 2)) fullShare xf
      ∗ heldBy (V d (cV L) (jV L)) (xSeg (k0_off2 L 2#32) (k0_off2_inb L 2)) fullShare xf
      ∗ heldBy (V d (cV L) (jV L)) (xSeg (k0_off3 L 2#32) (k0_off3_inb L 2)) fullShare xf
      ∗ heldBy (V d (cV L) (jV L)) (xSeg (k0_off4 L 2#32) (k0_off4_inb L 2)) fullShare xf)

/-- The tile's twelve output segments, row by row, at contents `f`. -/
abbrev oPieces (f : Buf (Elt F) (oLoc d)) : sProp 𝕄 :=
  iprop(heldBy (V d (cV L) (jV L)) (oSeg (k0_off5 L 0#32) (k0_off5_inb L 0)) fullShare f
      ∗ heldBy (V d (cV L) (jV L)) (oSeg (k0_off6 L 0#32) (k0_off6_inb L 0)) fullShare f
      ∗ heldBy (V d (cV L) (jV L)) (oSeg (k0_off7 L 0#32) (k0_off7_inb L 0)) fullShare f
      ∗ heldBy (V d (cV L) (jV L)) (oSeg (k0_off8 L 0#32) (k0_off8_inb L 0)) fullShare f
      ∗ heldBy (V d (cV L) (jV L)) (oSeg (k0_off5 L 1#32) (k0_off5_inb L 1)) fullShare f
      ∗ heldBy (V d (cV L) (jV L)) (oSeg (k0_off6 L 1#32) (k0_off6_inb L 1)) fullShare f
      ∗ heldBy (V d (cV L) (jV L)) (oSeg (k0_off7 L 1#32) (k0_off7_inb L 1)) fullShare f
      ∗ heldBy (V d (cV L) (jV L)) (oSeg (k0_off8 L 1#32) (k0_off8_inb L 1)) fullShare f
      ∗ heldBy (V d (cV L) (jV L)) (oSeg (k0_off5 L 2#32) (k0_off5_inb L 2)) fullShare f
      ∗ heldBy (V d (cV L) (jV L)) (oSeg (k0_off6 L 2#32) (k0_off6_inb L 2)) fullShare f
      ∗ heldBy (V d (cV L) (jV L)) (oSeg (k0_off7 L 2#32) (k0_off7_inb L 2)) fullShare f
      ∗ heldBy (V d (cV L) (jV L)) (oSeg (k0_off8 L 2#32) (k0_off8_inb L 2)) fullShare f)

/-- The ring's seven slots at contents `fb`, -/
abbrev slots (fb : Buf (Elt F) ((V d (cV L) (jV L)).loc cc0_scratch0)) : sProp 𝕄 :=
  iprop(heldBy (V d (cV L) (jV L)) (slot ![0] inb_S114688_S16384_0) fullShare fb
      ∗ heldBy (V d (cV L) (jV L)) (slot ![16384] inb_S114688_S16384_16384) fullShare fb
      ∗ heldBy (V d (cV L) (jV L)) (slot ![32768] inb_S114688_S16384_32768) fullShare fb
      ∗ heldBy (V d (cV L) (jV L)) (slot ![49152] inb_S114688_S16384_49152) fullShare fb
      ∗ heldBy (V d (cV L) (jV L)) (slot ![65536] inb_S114688_S16384_65536) fullShare fb
      ∗ heldBy (V d (cV L) (jV L)) (slot ![81920] inb_S114688_S16384_81920) fullShare fb
      ∗ heldBy (V d (cV L) (jV L)) (slot ![98304] inb_S114688_S16384_98304) fullShare fb)

/-- and each at some contents of its own. -/
abbrev slotsAny : sProp 𝕄 :=
  iprop((∃ f, heldBy (V d (cV L) (jV L)) (slot ![0] inb_S114688_S16384_0) fullShare f)
      ∗ (∃ f, heldBy (V d (cV L) (jV L)) (slot ![16384] inb_S114688_S16384_16384) fullShare f)
      ∗ (∃ f, heldBy (V d (cV L) (jV L)) (slot ![32768] inb_S114688_S16384_32768) fullShare f)
      ∗ (∃ f, heldBy (V d (cV L) (jV L)) (slot ![49152] inb_S114688_S16384_49152) fullShare f)
      ∗ (∃ f, heldBy (V d (cV L) (jV L)) (slot ![65536] inb_S114688_S16384_65536) fullShare f)
      ∗ (∃ f, heldBy (V d (cV L) (jV L)) (slot ![81920] inb_S114688_S16384_81920) fullShare f)
      ∗ (∃ f, heldBy (V d (cV L) (jV L)) (slot ![98304] inb_S114688_S16384_98304) fullShare f))

/-- The fourteen counters at zero: the reads' seven, then the writes' seven. -/
abbrev cells : sProp 𝕄 :=
  iprop(semVal (V d (cV L) (jV L), SemLoc.dma ((cc0_scratch1.slice (Rect.unit (s := S7) ![0] S1.size inb_S7_S1_0)).squeeze S_ squeezes_S1_S_).sem) 0
      ∗ semVal (V d (cV L) (jV L), SemLoc.dma ((cc0_scratch1.slice (Rect.unit (s := S7) ![1] S1.size inb_S7_S1_1)).squeeze S_ squeezes_S1_S_).sem) 0
      ∗ semVal (V d (cV L) (jV L), SemLoc.dma ((cc0_scratch1.slice (Rect.unit (s := S7) ![2] S1.size inb_S7_S1_2)).squeeze S_ squeezes_S1_S_).sem) 0
      ∗ semVal (V d (cV L) (jV L), SemLoc.dma ((cc0_scratch1.slice (Rect.unit (s := S7) ![3] S1.size inb_S7_S1_3)).squeeze S_ squeezes_S1_S_).sem) 0
      ∗ semVal (V d (cV L) (jV L), SemLoc.dma ((cc0_scratch1.slice (Rect.unit (s := S7) ![4] S1.size inb_S7_S1_4)).squeeze S_ squeezes_S1_S_).sem) 0
      ∗ semVal (V d (cV L) (jV L), SemLoc.dma ((cc0_scratch1.slice (Rect.unit (s := S7) ![5] S1.size inb_S7_S1_5)).squeeze S_ squeezes_S1_S_).sem) 0
      ∗ semVal (V d (cV L) (jV L), SemLoc.dma ((cc0_scratch1.slice (Rect.unit (s := S7) ![6] S1.size inb_S7_S1_6)).squeeze S_ squeezes_S1_S_).sem) 0
      ∗ semVal (V d (cV L) (jV L), SemLoc.dma ((cc0_scratch2.slice (Rect.unit (s := S7) ![0] S1.size inb_S7_S1_0)).squeeze S_ squeezes_S1_S_).sem) 0
      ∗ semVal (V d (cV L) (jV L), SemLoc.dma ((cc0_scratch2.slice (Rect.unit (s := S7) ![1] S1.size inb_S7_S1_1)).squeeze S_ squeezes_S1_S_).sem) 0
      ∗ semVal (V d (cV L) (jV L), SemLoc.dma ((cc0_scratch2.slice (Rect.unit (s := S7) ![2] S1.size inb_S7_S1_2)).squeeze S_ squeezes_S1_S_).sem) 0
      ∗ semVal (V d (cV L) (jV L), SemLoc.dma ((cc0_scratch2.slice (Rect.unit (s := S7) ![3] S1.size inb_S7_S1_3)).squeeze S_ squeezes_S1_S_).sem) 0
      ∗ semVal (V d (cV L) (jV L), SemLoc.dma ((cc0_scratch2.slice (Rect.unit (s := S7) ![4] S1.size inb_S7_S1_4)).squeeze S_ squeezes_S1_S_).sem) 0
      ∗ semVal (V d (cV L) (jV L), SemLoc.dma ((cc0_scratch2.slice (Rect.unit (s := S7) ![5] S1.size inb_S7_S1_5)).squeeze S_ squeezes_S1_S_).sem) 0
      ∗ semVal (V d (cV L) (jV L), SemLoc.dma ((cc0_scratch2.slice (Rect.unit (s := S7) ![6] S1.size inb_S7_S1_6)).squeeze S_ squeezes_S1_S_).sem) 0)

end Pieces

/-! ## What a copied segment holds -/

/-- Reading a view back after a write through the whole of it gives what was written. -/
theorem read_whole {κ : Kind} {sp : Space} {s : Shape} {e : EltTy} (v : View sig κ sp s e) (f : v.ty.Contents (Elt F))
    (w : s.Idx → Elt F e) (l : List (View.Piece (Elt F) s e)) :
    v.read (Elt F) (v.writes (Elt F) f (⟨Rect.whole s, w⟩ :: l)) = w :=
  funext fun x => View.read_writes_cons_hit v f (Rect.whole s) w l x x (Rect.emb_whole_apply s x)

/-- An output segment that reads as its source segment of `xf` holds the words of `OUT xf`. -/
theorem held_out (d : Dev nD) (c : Fin τ.nSC) (j : Fin τ.nSub) {off off' : Fin 2 → Nat}
    {inb : ∀ a, off a + S1x16384.size a ≤ S384x65536.size a} {inb' : ∀ a, off' a + S1x16384.size a ≤ S96x65536.size a}
    {r w : Nat} (e : off = ![srcRow r, w]) (e' : off' = ![r, w]) (xf : Buf (Elt F) (xLoc d))
    (g : Buf (Elt F) (oLoc d))
    (hg : (oSeg off' inb').view.read (Elt F) g = (xSeg off inb).view.read (Elt F) xf) :
    (heldBy (V d c j) (oSeg off' inb') fullShare g : sProp 𝕄) = heldBy (V d c j) (oSeg off' inb') fullShare (OUT xf) := by
  refine pointsTo_congr fun i hi => ?_
  obtain ⟨x, -, rfl⟩ := Finset.mem_map.mp hi
  have h : g ((oSeg off' inb').view.emb x) = xf ((xSeg off inb).view.emb x) := congrFun hg x
  rw [emb_seg e e' x] at h
  exact h

/-! The four columns of segments, one theorem each: a segment that reads as its source holds the words of `OUT xf`. -/

theorem out0 (d : Dev nD) (L : grid0.Coords) (b : BitVec 32) (k : Fin 3) (hb : b = BitVec.ofNat 32 k.val)
    {inb' : ∀ a, k0_off5 L b a + S1x16384.size a ≤ S96x65536.size a} (xf : Buf (Elt F) (xLoc d)) (g : Buf (Elt F) (oLoc d))
    (hg : ∀ inb, (oSeg (k0_off5 L b) inb').view.read (Elt F) g = (xSeg (k0_off1 L b) inb).view.read (Elt F) xf) :
    (heldBy (V d (cV L) (jV L)) (oSeg (k0_off5 L b) inb') fullShare g : sProp 𝕄)
      ⊢ heldBy (V d (cV L) (jV L)) (oSeg (k0_off5 L b) inb') fullShare (OUT xf) := by
  subst hb
  exact Entails.of_eq (held_out d (cV L) (jV L) (off1_eq L k) (k0_off5_eq L k) xf g (hg (k0_off1_inb L k)))

theorem out1 (d : Dev nD) (L : grid0.Coords) (b : BitVec 32) (k : Fin 3) (hb : b = BitVec.ofNat 32 k.val)
    {inb' : ∀ a, k0_off6 L b a + S1x16384.size a ≤ S96x65536.size a} (xf : Buf (Elt F) (xLoc d)) (g : Buf (Elt F) (oLoc d))
    (hg : ∀ inb, (oSeg (k0_off6 L b) inb').view.read (Elt F) g = (xSeg (k0_off2 L b) inb).view.read (Elt F) xf) :
    (heldBy (V d (cV L) (jV L)) (oSeg (k0_off6 L b) inb') fullShare g : sProp 𝕄)
      ⊢ heldBy (V d (cV L) (jV L)) (oSeg (k0_off6 L b) inb') fullShare (OUT xf) := by
  subst hb
  exact Entails.of_eq (held_out d (cV L) (jV L) (off2_eq L k) (k0_off6_eq L k) xf g (hg (k0_off2_inb L k)))

theorem out2 (d : Dev nD) (L : grid0.Coords) (b : BitVec 32) (k : Fin 3) (hb : b = BitVec.ofNat 32 k.val)
    {inb' : ∀ a, k0_off7 L b a + S1x16384.size a ≤ S96x65536.size a} (xf : Buf (Elt F) (xLoc d)) (g : Buf (Elt F) (oLoc d))
    (hg : ∀ inb, (oSeg (k0_off7 L b) inb').view.read (Elt F) g = (xSeg (k0_off3 L b) inb).view.read (Elt F) xf) :
    (heldBy (V d (cV L) (jV L)) (oSeg (k0_off7 L b) inb') fullShare g : sProp 𝕄)
      ⊢ heldBy (V d (cV L) (jV L)) (oSeg (k0_off7 L b) inb') fullShare (OUT xf) := by
  subst hb
  exact Entails.of_eq (held_out d (cV L) (jV L) (off3_eq L k) (k0_off7_eq L k) xf g (hg (k0_off3_inb L k)))

theorem out3 (d : Dev nD) (L : grid0.Coords) (b : BitVec 32) (k : Fin 3) (hb : b = BitVec.ofNat 32 k.val)
    {inb' : ∀ a, k0_off8 L b a + S1x16384.size a ≤ S96x65536.size a} (xf : Buf (Elt F) (xLoc d)) (g : Buf (Elt F) (oLoc d))
    (hg : ∀ inb, (oSeg (k0_off8 L b) inb').view.read (Elt F) g = (xSeg (k0_off4 L b) inb).view.read (Elt F) xf) :
    (heldBy (V d (cV L) (jV L)) (oSeg (k0_off8 L b) inb') fullShare g : sProp 𝕄)
      ⊢ heldBy (V d (cV L) (jV L)) (oSeg (k0_off8 L b) inb') fullShare (OUT xf) := by
  subst hb
  exact Entails.of_eq (held_out d (cV L) (jV L) (off4_eq L k) (k0_off8_eq L k) xf g (hg (k0_off4_inb L k)))

variable [FloatOps F]

/-! ## The run -/

theorem waits_insert {W : Waits sig (HIx 1)} {W' : Waits sig (HIx 1)} {x : SemLoc sig} (h : ∀ p ∈ W', p ∈ W ∨ p.2 = none) :
    ∀ p ∈ insert (x, (none : HIx 1)) W', p ∈ W ∨ p.2 = none :=
  fun p hp => (Finset.mem_insert.mp hp).elim (fun e => .inr (e ▸ rfl)) (h p)

set_option maxHeartbeats 4000000 in
/-- The tile's body: twelve copies in through the ring and twelve out, each waited for. -/
theorem run (d : Dev nD) (L : grid0.Coords) (xf : Buf (Elt F) (xLoc d))
    (fo : Buf (Elt F) (oLoc d)) (fb : Buf (Elt F) ((V d (cV L) (jV L)).loc cc0_scratch0))
    (O : CellTallies nD τ sig (HIx 1)) (W : Waits sig (HIx 1)) :
    iprop(Transfers.MayWaits (V d (cV L) (jV L)) (none : HIx 1) O ∗ xPieces d L xf ∗ oPieces d L fo ∗ slots d L fb ∗ cells d L
        ∗ owes (V d (cV L) (jV L)) O W)
      ⊢ wp frame (wpE (defs₀ (F := F)) 𝒱₀ (V d (cV L) (jV L)) none) Set.univ
          (cc0__body L (Memref.whole main_v0_scv) (Memref.isWhole_whole _) (Memref.whole main_v1_scv) (Memref.isWhole_whole _)
            (Memref.whole cc0_scratch0) (Memref.isWhole_whole _) cc0_scratch1 cc0_scratch2)
          fun _ => iprop(oPieces d L (OUT xf) ∗ slotsAny d L ∗ cells d L
            ∗ ∃ W', ⌜∀ p ∈ W', p ∈ W ∨ p.2 = none⌝ ∗ owes (V d (cV L) (jV L)) O W') := by
  iintro ⟨#Hmw, ⟨Hx00, Hx01, Hx02, Hx03, Hx10, Hx11, Hx12, Hx13, Hx20, Hx21, Hx22, Hx23⟩, ⟨Ho00, Ho01, Ho02, Ho03, Ho10, Ho11, Ho12, Ho13, Ho20, Ho21, Ho22, Ho23⟩,
    ⟨Hb0, Hb1, Hb2, Hb3, Hb4, Hb5, Hb6⟩,
    ⟨Hr0, Hr1, Hr2, Hr3, Hr4, Hr5, Hr6, Hw0, Hw1, Hw2, Hw3, Hw4, Hw5, Hw6⟩, HO⟩
  rw [cc0__body_eq_skeleton]; unfold cc0__body_skel
  sl_exec
  sl_step
  isplitl [Ho00 Ho01 Ho02 Ho03 Ho10 Ho11 Ho12 Ho13 Ho20 Ho21 Ho22 Ho23]
  · isplitl [Ho00]
    · iapply (out0 d L 0#32 0 rfl xf _ ?h) $$ Ho00
      case h => exact fun _ => (read_whole _ _ _ _).trans (read_whole _ _ _ _)
    isplitl [Ho01]
    · iapply (out1 d L 0#32 0 rfl xf _ ?h) $$ Ho01
      case h => exact fun _ => (read_whole _ _ _ _).trans (read_whole _ _ _ _)
    isplitl [Ho02]
    · iapply (out2 d L 0#32 0 rfl xf _ ?h) $$ Ho02
      case h => exact fun _ => (read_whole _ _ _ _).trans (read_whole _ _ _ _)
    isplitl [Ho03]
    · iapply (out3 d L 0#32 0 rfl xf _ ?h) $$ Ho03
      case h => exact fun _ => (read_whole _ _ _ _).trans (read_whole _ _ _ _)
    isplitl [Ho10]
    · iapply (out0 d L 1#32 1 rfl xf _ ?h) $$ Ho10
      case h => exact fun _ => (read_whole _ _ _ _).trans (read_whole _ _ _ _)
    isplitl [Ho11]
    · iapply (out1 d L 1#32 1 rfl xf _ ?h) $$ Ho11
      case h => exact fun _ => (read_whole _ _ _ _).trans (read_whole _ _ _ _)
    isplitl [Ho12]
    · iapply (out2 d L 1#32 1 rfl xf _ ?h) $$ Ho12
      case h => exact fun _ => (read_whole _ _ _ _).trans (read_whole _ _ _ _)
    isplitl [Ho13]
    · iapply (out3 d L 1#32 1 rfl xf _ ?h) $$ Ho13
      case h => exact fun _ => (read_whole _ _ _ _).trans (read_whole _ _ _ _)
    isplitl [Ho20]
    · iapply (out0 d L 2#32 2 rfl xf _ ?h) $$ Ho20
      case h => exact fun _ => (read_whole _ _ _ _).trans (read_whole _ _ _ _)
    isplitl [Ho21]
    · iapply (out1 d L 2#32 2 rfl xf _ ?h) $$ Ho21
      case h => exact fun _ => (read_whole _ _ _ _).trans (read_whole _ _ _ _)
    isplitl [Ho22]
    · iapply (out2 d L 2#32 2 rfl xf _ ?h) $$ Ho22
      case h => exact fun _ => (read_whole _ _ _ _).trans (read_whole _ _ _ _)
    iapply (out3 d L 2#32 2 rfl xf _ ?h) $$ Ho23
    case h => exact fun _ => (read_whole _ _ _ _).trans (read_whole _ _ _ _)
  isplitl [Hb0 Hb1 Hb2 Hb3 Hb4 Hb5 Hb6]
  · isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    iexists _; iexact Hb6
  isplitl [Hr0 Hr1 Hr2 Hr3 Hr4 Hr5 Hr6 Hw0 Hw1 Hw2 Hw3 Hw4 Hw5 Hw6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    iexact Hw6
  iexists _; isplitr
  swap
  · iexact HO
  · ipureintro
    repeat refine waits_insert ?_
    exact fun p hp => .inl hp

end Cert.Proof.Tile

end
-- ==== Proof.Deal.lean ====
/-
  The whole arrays dealt to the tiles. Each array of the call is the separate pieces of all thirty-two tiles: the output
  exactly, the input with rows left over that no tile reads. And a tile's own memory is its ring's seven slots, its own
  counters the fourteen of its transfers and others.
-/
module

public import proofs.«01_k».proof.Proof.Tile

@[expose] public section

set_option maxRecDepth 16384

noncomputable section

namespace Cert.Proof.Deal

open Cert.KernelIdeal Cert.KernelIdeal.Gen Cert.Proof.Geometry Cert.Proof.Tile
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The point of the kernel's grid at core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The twelve segments of a tile, row by row. -/
def segList : List (Fin 3 × Fin 4) :=
  [(0, 0), (0, 1), (0, 2), (0, 3), (1, 0), (1, 1), (1, 2), (1, 3), (2, 0), (2, 1), (2, 2), (2, 3)]

/-! ## The flattened output -/

section Output

variable (d : Dev nD) (L : grid0.Coords)

/-- The output row of a tile's segment. -/
abbrev row (p : Fin 3 × Fin 4) : Nat := rowOf (L 0).val (L 1).val p.1.val

/-- Segment `(k, h)` of the tile's output, as the program spells it. -/
def oAt (f : Buf (Elt F) (oLoc d)) : Fin 3 × Fin 4 → sProp 𝕄
  | (k, 0) => heldBy (V d (cV L) (jV L)) (oSeg (k0_off5 L (BitVec.ofNat 32 k.val)) (k0_off5_inb L k)) fullShare f
  | (k, 1) => heldBy (V d (cV L) (jV L)) (oSeg (k0_off6 L (BitVec.ofNat 32 k.val)) (k0_off6_inb L k)) fullShare f
  | (k, 2) => heldBy (V d (cV L) (jV L)) (oSeg (k0_off7 L (BitVec.ofNat 32 k.val)) (k0_off7_inb L k)) fullShare f
  | (k, 3) => heldBy (V d (cV L) (jV L)) (oSeg (k0_off8 L (BitVec.ofNat 32 k.val)) (k0_off8_inb L k)) fullShare f

theorem oAt_eq (f : Buf (Elt F) (oLoc d)) (p : Fin 3 × Fin 4) :
    (oAt d L f p : sProp 𝕄) = oLoc d ↦[oSet (row L p) p.2.val]{fullShare} f := by
  have key : ∀ {I J : Finset S96x65536.Idx}, I = J →
      (oLoc d ↦[I]{fullShare} f : sProp 𝕄) = oLoc d ↦[J]{fullShare} f := fun e => by rw [e]
  match p with
  | (k, 0) => exact key (set_oSeg (h := 0) (k0_off5_eq L k))
  | (k, 1) => exact key (set_oSeg (h := 1) (k0_off6_eq L k))
  | (k, 2) => exact key (set_oSeg (h := 2) (k0_off7_eq L k))
  | (k, 3) => exact key (set_oSeg (h := 3) (k0_off8_eq L k))

/-- A tile's output pieces, as one family. -/
theorem oPieces_eq (f : Buf (Elt F) (oLoc d)) :
    (oPieces d L f : sProp 𝕄)
      = bigSep Finset.univ fun p : Fin 3 × Fin 4 => oLoc d ↦[oSet (row L p) p.2.val]{fullShare} f :=
  ((bigSep_congr fun p _ => (oAt_eq d L f p).symm).trans
    (bigSep_univ_eq_bigSepL segList (by decide) (by decide) (oAt d L f))).symm

end Output

/-- All the segments of all the tiles: core, subcore, row and column. -/
abbrev Ix : Type := Fin 2 × Fin 16 × Fin 3 × Fin 4

/-- The elements of a tile's segment of the flattened output. -/
def oAll (t : Ix) : Finset S96x65536.Idx := oSet (rowOf t.1.val t.2.1.val t.2.2.1.val) t.2.2.2.val

theorem rowOf_inj {c c' : Fin 2} {s s' : Fin 16} {k k' : Fin 3} (h : rowOf c.val s.val k.val = rowOf c'.val s'.val k'.val) :
    c = c' ∧ s = s' ∧ k = k' := by
  unfold rowOf at h
  exact ⟨Fin.ext (by omega), Fin.ext (by omega), Fin.ext (by omega)⟩

theorem ix_ext {t t' : Ix} (h : rowOf t.1.val t.2.1.val t.2.2.1.val = rowOf t'.1.val t'.2.1.val t'.2.2.1.val)
    (h' : t.2.2.2.val = t'.2.2.2.val) : t = t' := by
  obtain ⟨e1, e2, e3⟩ := rowOf_inj h
  exact Prod.ext e1 (Prod.ext e2 (Prod.ext e3 (Fin.ext h')))

theorem oAll_disjoint : ∀ t ∈ (Finset.univ : Finset Ix), ∀ t' ∈ (Finset.univ : Finset Ix), t ≠ t' → Disjoint (oAll t) (oAll t') := by
  intro t _ t' _ hne
  refine Finset.disjoint_left.mpr fun i hi hi' => hne ?_
  rw [oAll, oSet, Finset.mem_filter] at hi hi'
  exact ix_ext (hi.2.1.symm.trans hi'.2.1) (by omega)

theorem oAll_cover : (Finset.univ : Finset Ix).biUnion oAll = Finset.univ := by
  refine Finset.eq_univ_of_forall fun i => ?_
  have h0 : (i 0).val < 96 := (i 0).isLt
  have h1 : (i 1).val < 65536 := (i 1).isLt
  refine Finset.mem_biUnion.mpr ⟨(⟨(i 0).val % 6 / 3, by omega⟩, ⟨(i 0).val / 6, by omega⟩, ⟨(i 0).val % 3, by omega⟩,
    ⟨(i 1).val / 16384, by omega⟩), Finset.mem_univ _, ?_⟩
  rw [oAll, oSet, Finset.mem_filter]
  refine ⟨Finset.mem_univ _, ?_, ?_, ?_⟩
  · show (i 0).val = 6 * ((i 0).val / 6) + 3 * ((i 0).val % 6 / 3) + (i 0).val % 3
    omega
  · show 16384 * ((i 1).val / 16384) ≤ (i 1).val
    omega
  · show (i 1).val < 16384 * ((i 1).val / 16384) + 16384
    omega

/-- The flattened output is the thirty-two tiles' pieces of it. -/
theorem out_dealt (d : Dev nD) (f : Buf (Elt F) (oLoc d)) :
    (oLoc d ↦{fullShare} f : sProp 𝕄)
      = bigSep Finset.univ fun c : Fin 2 => bigSep Finset.univ fun s : Fin 16 => oPieces d (coordsV c s) f := by
  have h : (oLoc d ↦[(Finset.univ : Finset Ix).biUnion oAll]{fullShare} f : sProp 𝕄)
      = bigSep Finset.univ fun t : Ix => oLoc d ↦[oAll t]{fullShare} f := pointsTo_biUnion (ℓ := oLoc d) Finset.univ oAll oAll_disjoint
  rw [oAll_cover] at h
  refine h.trans ((bigSep_univ_prod _).trans (bigSep_congr fun c _ => (bigSep_univ_prod _).trans (bigSep_congr fun s _ => ?_)))
  rw [oPieces_eq]; rfl

/-! ## The flattened input -/

section Input

variable (d : Dev nD) (L : grid0.Coords)

/-- Segment `(k, h)` of the tile's input, as the program spells it. -/
def xAt (f : Buf (Elt F) (xLoc d)) : Fin 3 × Fin 4 → sProp 𝕄
  | (k, 0) => heldBy (V d (cV L) (jV L)) (xSeg (k0_off1 L (BitVec.ofNat 32 k.val)) (k0_off1_inb L k)) fullShare f
  | (k, 1) => heldBy (V d (cV L) (jV L)) (xSeg (k0_off2 L (BitVec.ofNat 32 k.val)) (k0_off2_inb L k)) fullShare f
  | (k, 2) => heldBy (V d (cV L) (jV L)) (xSeg (k0_off3 L (BitVec.ofNat 32 k.val)) (k0_off3_inb L k)) fullShare f
  | (k, 3) => heldBy (V d (cV L) (jV L)) (xSeg (k0_off4 L (BitVec.ofNat 32 k.val)) (k0_off4_inb L k)) fullShare f

theorem xAt_eq (f : Buf (Elt F) (xLoc d)) (p : Fin 3 × Fin 4) :
    (xAt d L f p : sProp 𝕄) = xLoc d ↦[xSet (srcRow (row L p)) p.2.val]{fullShare} f := by
  have key : ∀ {I J : Finset S384x65536.Idx}, I = J →
      (xLoc d ↦[I]{fullShare} f : sProp 𝕄) = xLoc d ↦[J]{fullShare} f := fun e => by rw [e]
  match p with
  | (k, 0) => exact key (set_xSeg (h := 0) (off1_eq L k))
  | (k, 1) => exact key (set_xSeg (h := 1) (off2_eq L k))
  | (k, 2) => exact key (set_xSeg (h := 2) (off3_eq L k))
  | (k, 3) => exact key (set_xSeg (h := 3) (off4_eq L k))

/-- A tile's input pieces, as one family. -/
theorem xPieces_eq (f : Buf (Elt F) (xLoc d)) :
    (xPieces d L f : sProp 𝕄)
      = bigSep Finset.univ fun p : Fin 3 × Fin 4 => xLoc d ↦[xSet (srcRow (row L p)) p.2.val]{fullShare} f :=
  ((bigSep_congr fun p _ => (xAt_eq d L f p).symm).trans
    (bigSep_univ_eq_bigSepL segList (by decide) (by decide) (xAt d L f))).symm

end Input

/-- The elements of a tile's segment of the flattened input. -/
def xAll (t : Ix) : Finset S384x65536.Idx := xSet (srcRow (rowOf t.1.val t.2.1.val t.2.2.1.val)) t.2.2.2.val

/-- Two output rows are copies of two input rows. -/
theorem srcRow_inj {r r' : Nat} (h : srcRow r = srcRow r') : r = r' := by
  unfold srcRow at h
  omega

theorem xAll_disjoint : ∀ t ∈ (Finset.univ : Finset Ix), ∀ t' ∈ (Finset.univ : Finset Ix), t ≠ t' → Disjoint (xAll t) (xAll t') := by
  intro t _ t' _ hne
  refine Finset.disjoint_left.mpr fun i hi hi' => hne ?_
  rw [xAll, xSet, Finset.mem_filter] at hi hi'
  exact ix_ext (srcRow_inj (hi.2.1.symm.trans hi'.2.1)) (by omega)

/-- The flattened input holds the thirty-two tiles' pieces of it. -/
theorem in_dealt (d : Dev nD) (f : Buf (Elt F) (xLoc d)) :
    (xLoc d ↦{fullShare} f : sProp 𝕄)
      ⊢ bigSep Finset.univ fun c : Fin 2 => bigSep Finset.univ fun s : Fin 16 => xPieces d (coordsV c s) f := by
  have h : (xLoc d ↦[(Finset.univ : Finset Ix).biUnion xAll]{fullShare} f : sProp 𝕄)
      = bigSep Finset.univ fun c : Fin 2 => bigSep Finset.univ fun s : Fin 16 => xPieces d (coordsV c s) f := by
    refine (pointsTo_biUnion (ℓ := xLoc d) Finset.univ xAll xAll_disjoint).trans ((bigSep_univ_prod _).trans
      (bigSep_congr fun c _ => (bigSep_univ_prod _).trans (bigSep_congr fun s _ => ?_)))
    rw [xPieces_eq]; rfl
  rw [← h]
  iintro H
  ihave H' := (pointsTo_split_subset (Finset.subset_univ ((Finset.univ : Finset Ix).biUnion xAll))).1 $$ H
  icases H' with ⟨H, -⟩
  iexact H

/-! ## A tile's own memory -/

section Own

variable (d : Dev nD) (L : grid0.Coords)

/-- The ring's slot number `b`, as the program spells it. -/
def slotAt (f : Fin 7 → Buf (Elt F) ((V d (cV L) (jV L)).loc cc0_scratch0)) : Fin 7 → sProp 𝕄
  | 0 => heldBy (V d (cV L) (jV L)) (slot ![0] inb_S114688_S16384_0) fullShare (f 0)
  | 1 => heldBy (V d (cV L) (jV L)) (slot ![16384] inb_S114688_S16384_16384) fullShare (f 1)
  | 2 => heldBy (V d (cV L) (jV L)) (slot ![32768] inb_S114688_S16384_32768) fullShare (f 2)
  | 3 => heldBy (V d (cV L) (jV L)) (slot ![49152] inb_S114688_S16384_49152) fullShare (f 3)
  | 4 => heldBy (V d (cV L) (jV L)) (slot ![65536] inb_S114688_S16384_65536) fullShare (f 4)
  | 5 => heldBy (V d (cV L) (jV L)) (slot ![81920] inb_S114688_S16384_81920) fullShare (f 5)
  | 6 => heldBy (V d (cV L) (jV L)) (slot ![98304] inb_S114688_S16384_98304) fullShare (f 6)

/-- The elements of slot `b`, of the ring's buffer. -/
abbrev slotOf (b : Fin 7) : Finset (Idx ((V d (cV L) (jV L)).loc cc0_scratch0)) := slotSet b.val

theorem slotAt_eq (f : Fin 7 → Buf (Elt F) ((V d (cV L) (jV L)).loc cc0_scratch0)) (b : Fin 7) :
    (slotAt d L f b : sProp 𝕄) = (V d (cV L) (jV L)).loc cc0_scratch0 ↦[slotOf d L b]{fullShare} f b := by
  have key : ∀ {I J : Finset S114688.Idx} (g : Buf (Elt F) ((V d (cV L) (jV L)).loc cc0_scratch0)), I = J →
      ((V d (cV L) (jV L)).loc cc0_scratch0 ↦[I]{fullShare} g : sProp 𝕄) = (V d (cV L) (jV L)).loc cc0_scratch0 ↦[J]{fullShare} g :=
    fun g e => by rw [e]
  match b with
  | 0 => exact key _ (set_slot (b := 0) rfl)
  | 1 => exact key _ (set_slot (b := 1) rfl)
  | 2 => exact key _ (set_slot (b := 2) rfl)
  | 3 => exact key _ (set_slot (b := 3) rfl)
  | 4 => exact key _ (set_slot (b := 4) rfl)
  | 5 => exact key _ (set_slot (b := 5) rfl)
  | 6 => exact key _ (set_slot (b := 6) rfl)

theorem slotOf_disjoint : ∀ b ∈ (Finset.univ : Finset (Fin 7)), ∀ b' ∈ (Finset.univ : Finset (Fin 7)), b ≠ b' →
    Disjoint (slotOf d L b) (slotOf d L b') := by
  intro b _ b' _ hne
  refine Finset.disjoint_left.mpr fun i hi hi' => hne (Fin.ext ?_)
  rw [slotOf, slotSet, Finset.mem_filter] at hi hi'
  omega

theorem slotOf_cover : (Finset.univ : Finset (Fin 7)).biUnion (slotOf d L) = Finset.univ := by
  refine Finset.eq_univ_of_forall fun i => ?_
  have h0 : (i 0).val < 114688 := (i 0).isLt
  refine Finset.mem_biUnion.mpr ⟨⟨(i 0).val / 16384, by omega⟩, Finset.mem_univ _, ?_⟩
  rw [slotOf, slotSet, Finset.mem_filter]
  refine ⟨Finset.mem_univ _, ?_, ?_⟩
  · show 16384 * ((i 0).val / 16384) ≤ (i 0).val
    omega
  · show (i 0).val < 16384 * ((i 0).val / 16384) + 16384
    omega

/-- Seven slots, listed. -/
theorem slots_list (f : Fin 7 → Buf (Elt F) ((V d (cV L) (jV L)).loc cc0_scratch0)) :
    (bigSep Finset.univ fun b : Fin 7 => (V d (cV L) (jV L)).loc cc0_scratch0 ↦[slotOf d L b]{fullShare} f b)
      = (bigSepL [0, 1, 2, 3, 4, 5, 6] (slotAt d L f) : sProp 𝕄) :=
  (bigSep_congr fun b _ => (slotAt_eq d L f b).symm).trans
    (bigSep_univ_eq_bigSepL [0, 1, 2, 3, 4, 5, 6] (by decide) (by decide) (slotAt d L f))

/-- The ring whole is its seven slots, -/
theorem ring_slots (fb : Buf (Elt F) ((V d (cV L) (jV L)).loc cc0_scratch0)) :
    ((V d (cV L) (jV L)).loc cc0_scratch0 ↦{fullShare} fb : sProp 𝕄) = slots d L fb := by
  have h : ((V d (cV L) (jV L)).loc cc0_scratch0 ↦[(Finset.univ : Finset (Fin 7)).biUnion (slotOf d L)]{fullShare} fb : sProp 𝕄)
      = bigSep Finset.univ fun b : Fin 7 => (V d (cV L) (jV L)).loc cc0_scratch0 ↦[slotOf d L b]{fullShare} fb :=
    pointsTo_biUnion Finset.univ (slotOf d L) (slotOf_disjoint d L)
  rw [slotOf_cover] at h
  exact h.trans (slots_list d L fun _ => fb)

/-- The seven slots, each at given contents, are the ring at some contents; -/
theorem ring_of_slots (f0 f1 f2 f3 f4 f5 f6 : Buf (Elt F) ((V d (cV L) (jV L)).loc cc0_scratch0)) :
    (iprop(heldBy (V d (cV L) (jV L)) (slot ![0] inb_S114688_S16384_0) fullShare f0
      ∗ heldBy (V d (cV L) (jV L)) (slot ![16384] inb_S114688_S16384_16384) fullShare f1
      ∗ heldBy (V d (cV L) (jV L)) (slot ![32768] inb_S114688_S16384_32768) fullShare f2
      ∗ heldBy (V d (cV L) (jV L)) (slot ![49152] inb_S114688_S16384_49152) fullShare f3
      ∗ heldBy (V d (cV L) (jV L)) (slot ![65536] inb_S114688_S16384_65536) fullShare f4
      ∗ heldBy (V d (cV L) (jV L)) (slot ![81920] inb_S114688_S16384_81920) fullShare f5
      ∗ heldBy (V d (cV L) (jV L)) (slot ![98304] inb_S114688_S16384_98304) fullShare f6) : sProp 𝕄)
      ⊢ iprop(∃ f, (V d (cV L) (jV L)).loc cc0_scratch0 ↦{fullShare} f) := by
  refine BIBase.Entails.trans (Entails.of_eq (slots_list d L ![f0, f1, f2, f3, f4, f5, f6]).symm) ?_
  refine BIBase.Entails.trans (pointsTo_biUnion_join Finset.univ (slotOf d L) _ f0 (slotOf_disjoint d L)) ?_
  rw [slotOf_cover]
  iintro ⟨%g, -, Hg⟩
  iexists g; iexact Hg

/-- and so are the seven slots each at contents of its own. -/
theorem slots_ring : (slotsAny d L : sProp 𝕄) ⊢ iprop(∃ f, (V d (cV L) (jV L)).loc cc0_scratch0 ↦{fullShare} f) := by
  iintro ⟨⟨%f0, H0⟩, ⟨%f1, H1⟩, ⟨%f2, H2⟩, ⟨%f3, H3⟩, ⟨%f4, H4⟩, ⟨%f5, H5⟩, ⟨%f6, H6⟩⟩
  iapply (ring_of_slots d L f0 f1 f2 f3 f4 f5 f6)
  isplitl [H0]; · iexact H0
  isplitl [H1]; · iexact H1
  isplitl [H2]; · iexact H2
  isplitl [H3]; · iexact H3
  isplitl [H4]; · iexact H4
  isplitl [H5]; · iexact H5
  iexact H6

/-- A tile's own buffers are its ring, at some contents, and others. -/
theorem ownBufs_ring :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

/-- The transfers' counters, by number. -/
def cellAt : Fin 14 ↪ GSem nD τ sig :=
  ⟨fun n => (V d (cV L) (jV L), SemLoc.dma n), fun _ _ e => SemLoc.dma.inj (Prod.mk.inj e).2⟩

theorem cellAt_own : (Finset.univ : Finset (Fin 14)).map (cellAt d L) ⊆ ownCells (V d (cV L) (jV L)) := by
  intro g hg
  obtain ⟨n, -, rfl⟩ := Finset.mem_map.mp hg
  have hs : ∀ n : Fin 14, (SemLoc.dma n : SemLoc sig).isScoped .scVector = true := by decide
  exact mem_ownCells.mpr ⟨rfl, hs n⟩

/-- A tile's own counters are the fourteen of its transfers, and others. -/
theorem ownSems_cells :
    (ownSems0 (V d (cV L) (jV L)) : sProp 𝕄)
      = iprop(cells d L ∗ bigSep (ownCells (V d (cV L) (jV L)) \ (Finset.univ : Finset (Fin 14)).map (cellAt d L)) fun g => semVal g 0) := by
  have h : (bigSep ((Finset.univ : Finset (Fin 14)).map (cellAt d L)) fun g => semVal g 0 : sProp 𝕄) = cells d L :=
    (bigSep_map (cellAt d L)).trans (bigSep_univ_eq_bigSepL [0, 1, 2, 3, 4, 5, 6, 7, 8, 9, 10, 11, 12, 13] (by decide) (by decide) _)
  unfold SparseCore.Cfg.ownSems0
  rw [← h]
  exact bigSep_sdiff_split (cellAt_own d L)

end Own

end Cert.Proof.Deal

end
-- ==== Proof.Launch.lean ====
/-
  The program's run. The flattening, the call of the thirty-two tiles and the last reshape are put together by the
  library's launch theorem: the flattened input's and output's pieces go to the tiles and the output's come back at the
  words of `OUT`.
-/
module

public import proofs.«01_k».proof.Defs
public import proofs.«01_k».proof.Proof.Deal
public import proofs.«01_k».proof.Proof.Gen.Kernel
public import Idealize.ShloMosaic.Lib.SparseCore.Quiescent
public import Idealize.ShloMosaic.Lib.StableHlo.Run
public import Idealize.ShloMosaic.Lib.Tactic

@[expose] public section

set_option maxRecDepth 16384

noncomputable section

namespace Cert.Proof.Launch

open Cert.KernelIdeal Cert.KernelIdeal.Gen Cert.Proof.Geometry Cert.Proof.Tile Cert.Proof.Deal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, the left factor. -/
abbrev EH : Emb UH (MT nD τ sig (HIx 1) (Elt F) ℕ UU ℕ) := embL

variable (m : (ℓ : Loc nD τ sig) → Buf (Elt F) ℓ) (ρ : Dev nD → PrngReg)
variable [FloatOps F]

/-! ## The arrays' contents -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)
abbrev aLoc (d : Dev nD) : Loc nD τ sig := (SparseCore.T d).loc main_arg0
abbrev rLoc (d : Dev nD) : Loc nD τ sig := (SparseCore.T d).loc main_v2

/-- @main's two host operations: the input flattened, the result unflattened. -/
abbrev opIn : HloOp τ sig (Elt F) :=
  StableHlo.reshape main_arg0 main_v0 (rfl : (.f32 : EltTy) = .f32) shapeCasts_S3x128x256x256_S384x65536
abbrev opOut : HloOp τ sig (Elt F) :=
  StableHlo.reshape main_v1 main_v2 (rfl : (.f32 : EltTy) = .f32) shapeCasts_S96x65536_S3x32x256x256

/-- The valuation at the launch, and after the flattening. -/
def V0 (d : Dev nD) : Valuation τ sig (Elt F) := fun b => m (d, b)
def V1 (d : Dev nD) : Valuation τ sig (Elt F) := (opIn (F := F)).result (V0 m d)
/-- The flattened input. -/
def XF (d : Dev nD) : Buf (Elt F) (xLoc d) := V1 m d x'
/-- The valuation after the call, and after the last operation. -/
def V2 (d : Dev nD) : Valuation τ sig (Elt F) := Function.update (V1 m d) o' (OUT (XF m d))
def V3 (d : Dev nD) : Valuation τ sig (Elt F) := (opOut (F := F)).result (V2 m d)

/-! ## What the handshakes carry -/

/-- What the tile at core `c`, subcore `i` is handed: its pieces of the flattened input and output. -/
@[irreducible] def goT (d : Dev nD) (c : Fin 2) (i : Fin 16) : sProp 𝕄 :=
  iprop(xPieces d (coordsV c i) (XF m d) ∗ oPieces d (coordsV c i) (m (oLoc d)))
/-- What it gives back: its output pieces at the words of `OUT`. -/
@[irreducible] def tdT (d : Dev nD) (c : Fin 2) (i : Fin 16) : sProp 𝕄 := oPieces d (coordsV c i) (OUT (XF m d))
/-- The same for a SparseCore: its sixteen tiles'. -/
@[irreducible] def stC (d : Dev nD) (c : Fin 2) : sProp 𝕄 := bigSep Finset.univ (goT m d c)
@[irreducible] def dnC (d : Dev nD) (c : Fin 2) : sProp 𝕄 := bigSep Finset.univ (tdT m d c)

def P : (K (F := F)).Pay (nD := nD) (Val := Elt F) (Name := ℕ) (U := UU) where
  st := fun q d c => match q with | 0 => stC m d (Fin.cast nCore_zero c)
  dn := fun q d c => match q with | 0 => dnC m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

instance goT_storable (d : Dev nD) (c : Fin 2) (i : Fin 16) : BI.Storable (upEmb : UEmb _ 𝕄) (goT m d c i) := by
  unfold goT
  have h1 : BI.Storable (upEmb : UEmb _ 𝕄) (xPieces d (coordsV c i) (XF m d)) := inferInstance
  have h2 : BI.Storable (upEmb : UEmb _ 𝕄) (oPieces d (coordsV c i) (m (oLoc d))) := inferInstance
  exact BI.Storable.sep _ _ _
instance tdT_storable (d : Dev nD) (c : Fin 2) (i : Fin 16) : BI.Storable (upEmb : UEmb _ 𝕄) (tdT m d c i) := by
  unfold tdT; infer_instance
instance stC_storable (d : Dev nD) (c : Fin 2) : BI.Storable (upEmb : UEmb _ 𝕄) (stC m d c) := by
  unfold stC; infer_instance
instance dnC_storable (d : Dev nD) (c : Fin 2) : BI.Storable (upEmb : UEmb _ 𝕄) (dnC m d c) := by
  unfold dnC; infer_instance

instance P_storable : (P (F := F) m).IsStorable where
  st q d c := match q with | 0 => stC_storable m d (Fin.cast nCore_zero c)
  dn q d c := match q with | 0 => dnC_storable m d (Fin.cast nCore_zero c)
  go q d c i := match q with | 0 => goT_storable m d (Fin.cast nCore_zero c) (Fin.cast nSub_zero i)
  td q d c i := match q with | 0 => tdT_storable m d (Fin.cast nCore_zero c) (Fin.cast nSub_zero i)

/-! ## The tile's obligation -/

/-- A tile's whole task: its own memory and counters opened, the run, and both handed back. -/
theorem tile_body (d : Dev nD) (L : grid0.Coords) (hF : (K (F := F)).Facts) (O : CellTallies nD τ sig (HIx 1))
    (W : Waits sig (HIx 1)) (hO : ∀ g, O g none = 0) :
    iprop(levAts (K (F := F)).L (K (F := F)).lev ∗ emp ∗ (xPieces d L (XF m d) ∗ oPieces d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L (Memref.whole main_v0_scv) (Memref.isWhole_whole _) (Memref.whole main_v1_scv) (Memref.isWhole_whole _)
            (Memref.whole cc0_scratch0) (Memref.isWhole_whole _) cc0_scratch1 cc0_scratch2)
          fun _ => iprop(oPieces d L (OUT (XF m d)) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L),
    ownSems_cells, ownBufs_ring]
  iintro ⟨#Hlv, -, ⟨Hx, Ho⟩, ⟨⟨%fb, Hr⟩, Hbufs⟩, ⟨Hc, Hsems⟩, HO⟩
  ihave Hmw := ((K (F := F)).mayWaits_none (thr := V d (cV L) (jV L)) hO) $$ Hlv
  ihave Hs := (Entails.of_eq (ring_slots d L fb)) $$ Hr
  ihave Hw := (run d L (XF m d) (m (oLoc d)) fb O W) $$ [Hmw Hx Ho Hs Hc HO]
  · isplitl [Hmw]; · iexact Hmw
    isplitl [Hx]; · iexact Hx
    isplitl [Ho]; · iexact Ho
    isplitl [Hs]; · iexact Hs
    isplitl [Hc]; · iexact Hc
    iexact HO
  iapply (wp_mono frame _ _ (Q := fun _ => iprop((oPieces d L (OUT (XF m d)) ∗ slotsAny d L ∗ cells d L
      ∗ ∃ W', ⌜∀ p ∈ W', p ∈ W ∨ p.2 = none⌝ ∗ owes (V d (cV L) (jV L)) O W')
      ∗ ((bigSep ((ownRefs (τ := τ) (.scVector (cV L) (jV L))).erase ((Proc.scVector (cV L) (jV L)).devRef cc0_scratch0))
              fun b => iprop(∃ f, ((d, b) : Loc nD τ sig) ↦{fullShare} f))
        ∗ bigSep (ownCells (V d (cV L) (jV L)) \ (Finset.univ : Finset (Fin 14)).map (cellAt d L)) fun g => semVal g 0))) ?_)
  · intro _
    iintro ⟨⟨Ho, Hs, Hc, HO⟩, Hbufs, Hsems⟩
    isplitl [Ho]; · iexact Ho
    isplitl [Hs Hbufs]
    · isplitl [Hs]
      · iapply (slots_ring d L); iexact Hs
      · iexact Hbufs
    isplitl [Hc Hsems]
    · isplitl [Hc]; · iexact Hc
      iexact Hsems
    iexact HO
  iapply (wp_frame_r frame _ _)
  isplitl [Hw]; · iexact Hw
  isplitl [Hbufs]; · iexact Hbufs
  iexact Hsems

theorem defs₀_vector (c : Fin τ.nSC) (s : Fin τ.nSub) :
    defs₀ (F := F) (.scVector c s) 0 ()
      = SparseCore.onTile hcore0 hsub0 (fun c s => cc0__body (coordsV c s)
          (Memref.whole main_v0_scv) (Memref.isWhole_whole _) (Memref.whole main_v1_scv) (Memref.isWhole_whole _)
          (Memref.whole cc0_scratch0) (Memref.isWhole_whole _) cc0_scratch1 cc0_scratch2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the call runs `tile_body`. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have hgo : (P m).go 0 d c i = goT m d (Fin.cast nCore_zero c) (Fin.cast nSub_zero i) := rfl
  have htd : (P m).td 0 d c i = tdT m d (Fin.cast nCore_zero c) (Fin.cast nSub_zero i) := rfl
  rw [hgo, htd]; unfold goT tdT
  exact (tile_body m d (coordsV ⟨_, hc.1⟩ ⟨_, hc.2⟩) hF O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's payload is its tiles', both ways. -/
theorem vecSplit : (K (F := F)).VecSplit' (P m) 0 := by
  intro d c
  show stC m d (Fin.cast nCore_zero c) ⊢ |={Set.univ}=> iprop(
      (bigSep Finset.univ fun i : Fin ((K (F := F)).nSub 0) => goT m d (Fin.cast nCore_zero c) (Fin.cast nSub_zero i))
      ∗ ((bigSep Finset.univ fun i : Fin ((K (F := F)).nSub 0) => tdT m d (Fin.cast nCore_zero c) (Fin.cast nSub_zero i))
          -∗ dnC m d (Fin.cast nCore_zero c)))
  rw [bigSep_tasks (F := F) (goT m d (Fin.cast nCore_zero c)), bigSep_tasks (F := F) (tdT m d (Fin.cast nCore_zero c))]
  unfold stC dnC
  iintro H; imodintro
  isplitl [H]; · iexact H
  iintro H; iexact H

/-! ## The launch element: the handshakes' rounds -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's four arrays: the argument, the flattened input, the flattened output, the result. -/
abbrev S4 : Finset (DevRef τ sig) := {a', x', o', r'}
/-- The last two. -/
abbrev S2 : Finset (DevRef τ sig) := {o', r'}

omit [FloatOps F] in
theorem held_S4 (d : Dev nD) (W : Valuation τ sig (Elt F)) :
    (held (SparseCore.T d) S4 W : sProp 𝕄)
      = iprop((aLoc d ↦{fullShare} W a') ∗ (xLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem held_S2 (d : Dev nD) (W : Valuation τ sig (Elt F)) :
    (held (SparseCore.T d) S2 W : sProp 𝕄) = iprop((oLoc d ↦{fullShare} W o') ∗ rLoc d ↦{fullShare} W r') := by
  unfold held S2
  rw [SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem unscoped_held (d : Dev nD) :
    (unscopedBufs d (fun b => m ((SparseCore.T d).loc b)) : sProp 𝕄) = held (SparseCore.T d) S4 (V0 m d) := by
  rw [unscopedBufs_eq, held_S4]; rfl

/-- The flattening writes the flattened input alone. -/
theorem V1_ne (d : Dev nD) {b : DevRef τ sig} (h : b ∉ ({x'} : Finset (DevRef τ sig))) : V1 m d b = m (d, b) :=
  (opIn (F := F)).result_of_not_mem (V0 m d) h

theorem V2_o (d : Dev nD) : V2 m d o' = OUT (XF m d) := Function.update_self _ _ _
theorem V2_r (d : Dev nD) : V2 m d r' = m (rLoc d) :=
  (Function.update_of_ne (show r' ≠ o' by decide) _ _).trans (V1_ne m d (by decide))

/-- The four arrays after the flattening; -/
theorem held_V1 (d : Dev nD) :
    (held (SparseCore.T d) S4 ((opIn (F := F)).result (V0 m d)) : sProp 𝕄)
      = iprop((aLoc d ↦{fullShare} m (aLoc d)) ∗ (xLoc d ↦{fullShare} XF m d) ∗ (oLoc d ↦{fullShare} m (oLoc d))
          ∗ rLoc d ↦{fullShare} m (rLoc d)) := by
  rw [show (opIn (F := F)).result (V0 m d) = V1 m d from rfl, held_S4, V1_ne m d (b := a') (by decide),
    V1_ne m d (b := o') (by decide), V1_ne m d (b := r') (by decide)]
  rfl

/-- the last two after the call. -/
theorem held_V2 (d : Dev nD) :
    (held (SparseCore.T d) S2 (V2 m d) : sProp 𝕄)
      = iprop((oLoc d ↦{fullShare} OUT (XF m d)) ∗ rLoc d ↦{fullShare} m (rLoc d)) := by
  rw [held_S2, V2_o, V2_r]

theorem hIn : (opIn (F := F)).bufs ⊆ S4 := show ({a', x'} : Finset (DevRef τ sig)) ⊆ S4 by decide
theorem hOut : (opOut (F := F)).bufs ⊆ S2 := show ({o', r'} : Finset (DevRef τ sig)) ⊆ S2 by decide

/-- What the call takes for the two SparseCores: every tile's input pieces and every tile's output pieces. -/
theorem st0_eq (d : Dev nD) : (bigSep Finset.univ fun c : Fin ((K (F := F)).nCore 0) => (P m).st 0 d c)
    = iprop((bigSep Finset.univ fun c : Fin 2 => bigSep Finset.univ fun s : Fin 16 => xPieces d (coordsV c s) (XF m d))
        ∗ oLoc d ↦{fullShare} m (oLoc d)) := by
  rw [out_dealt, ← bigSep_sep']
  refine (bigSep_cores (F := F) (stC m d)).trans (bigSep_congr fun c _ => ?_)
  rw [← bigSep_sep']
  unfold stC
  exact bigSep_congr fun i _ => by unfold goT; rfl

/-- What it hands back: the flattened output, at the words of `OUT`. -/
theorem dn0_eq (d : Dev nD) : (bigSep Finset.univ fun c : Fin ((K (F := F)).nCore 0) => (P m).dn 0 d c)
    = (oLoc d ↦{fullShare} OUT (XF m d) : sProp 𝕄) := by
  rw [out_dealt]
  refine (bigSep_cores (F := F) (dnC m d)).trans (bigSep_congr fun c _ => ?_)
  unfold dnC
  exact bigSep_congr fun i _ => by unfold tdT; rfl

/-- What @main leaves the claim: the argument unchanged, the result. -/
abbrev FIN (d : Dev nD) : sProp 𝕄 := iprop((aLoc d ↦{fullShare} m (aLoc d)) ∗ rLoc d ↦{fullShare} V3 m d r')

/-- @main: the flattening, the call, the unflattening. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb]; · iexact Hb
    iexact Hheld
  iintro ⟨Hb, Hheld⟩
  ihave Hh := (Entails.of_eq (held_V1 m d)) $$ Hheld
  icases Hh with ⟨Ha, Hx, Ho, Hr⟩
  ihave Hx := (in_dealt d (XF m d)) $$ Hx
  rw [wp_ret]; imodintro
  iapply ((K (F := F)).wp_run (D (F := F)) 𝒱 (EH := EH) (P := P m) κ d 0) $$ [Hst Ha Hx Ho Hb Hr Hts]
  isplitr; · iexact Hctx
  isplitl [Hst]; · iexact Hst
  isplitl [Hx Ho]
  · rw [st0_eq]
    isplitl [Hx]; · iexact Hx
    iexact Ho
  iintro ⟨Hst, Hdn⟩
  ihave Ho := (Entails.of_eq (dn0_eq m d)) $$ Hdn
  iapply (wp_hlo_within 𝒱 (SparseCore.T d) none Set.univ (op := opOut) (S := S2) hOut (V := V2 m d)) $$ [Hb Ho Hr]
  · isplitl [Hb]; · iexact Hb
    rw [held_V2]
    isplitl [Ho]; · iexact Ho
    iexact Hr
  iintro ⟨Hb, Hheld⟩
  ihave Hh := (Entails.of_eq (held_S2 (F := F) d ((opOut (F := F)).result (V2 m d)))) $$ Hheld
  icases Hh with ⟨-, Hr⟩
  rw [wp_ret]; imodintro; imodintro
  isplitl [Hst]; · iexact Hst
  isplitr [Hb Hts]
  · isplitl [Ha]; · iexact Ha
    unfold V3; iexact Hr
  isplitl [Hb] <;> iassumption

def fq (d : Dev nD) (s' : Phys nD τ sig (Elt F)) : Prop :=
  s'.mem.mem (aLoc d) = m (aLoc d) ∧ s'.mem.mem (rLoc d) = V3 m d r'

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := V3 m d r')) $$ [HSI Hr]
  · isplitl [HSI] <;> iassumption
  icases H with %h2
  ipureintro; exact ⟨funext fun i => h1 i (Finset.mem_univ i), funext fun i => h2 i (Finset.mem_univ i)⟩

/-! ## The program's run -/

/-- Every final state: the argument unchanged, the result at the last operation's words, every counter at zero. -/
def QC : PUnit × MemSt nD τ sig (Elt F) → Prop := fun r =>
  (∀ c : Dev nD, r.2.mem (aLoc c) = m (aLoc c) ∧ r.2.mem (rLoc c) = V3 m c r') ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- `Cert.quiescent_KernelIdeal`: the run at the ideal numbers, read at the argument and at the counters. -/
theorem frame_ideal : Cert.quiescent_KernelIdeal := fun m ρ _ =>
  (θ_run Cert.KernelIdeal.defs _ _).mono (fun _ h => ⟨fun c => (h.1 c).1, h.2⟩) (run_main (F := Ideal) m ρ)

/-- `Cert.quiescent_Kernel`: the same program at the machine's words. -/
theorem frame_kernel : Cert.quiescent_Kernel := fun m ρ _ =>
  (θ_run Cert.KernelIdeal.defs _ _).mono (fun _ h => ⟨fun c => (h.1 c).1, h.2⟩) (run_main (F := Bits) m ρ)

end Cert.Proof.Launch

end
-- ==== Proof.Frames.lean ====
/-
  The reference's value at the ideal numbers. The reference builds its 32 positions as a linear ramp from 0 to 127,
  clips them, truncates them to integers and gathers the frames at those integers, replacing a frame whose index were
  out of range. Here each step is read at an index: the ramp's `j`-th entry is the real `127 j / 31`, its truncation the
  integer `127 j / 31` rounded down, which is between 0 and 127, so that the gather reads that frame and nothing is replaced.
-/
module

public import proofs.«01_k».proof.Defs
public import proofs.«01_k».proof.Proof.Gen.ReferenceIdeal
public import proofs.«01_k».proof.Proof.Gen.ReferenceIdeal.Run
public import Idealize.ShloMosaic.Lib.IdealHost
public import Idealize.ShloMosaic.Lib.Pipeline.Value
public import Idealize.ShloMosaic.Lib.ReduceAll

@[expose] public section

set_option maxRecDepth 16384

noncomputable section

namespace Cert.Proof.Frames

open Cert.ReferenceIdeal Cert.ReferenceIdeal.Gen
open Idealize.ShloMosaic Idealize.ShloMosaic.TcCoe Idealize.SL.Sem Idealize.ShloMosaic.StableHlo

/-! ## The sampled array -/

/-- The frame sample `j` of the output shows. -/
def frameOf (j : Nat) : Nat := j * 127 / 31

theorem frameOf_le {j : Nat} (h : j < 32) : frameOf j ≤ 127 := by unfold frameOf; omega

/-- Where the element `(c, j, a, b)` of the output is read: `(c, 127 j / 31, a, b)`. -/
def pick (i : S3x32x256x256.Idx) : S3x128x256x256.Idx
  | 0 => ⟨(i 0).val, (i 0).isLt⟩
  | 1 => ⟨frameOf (i 1).val, Nat.lt_succ_of_le (frameOf_le (i 1).isLt)⟩
  | 2 => ⟨(i 2).val, (i 2).isLt⟩
  | 3 => ⟨(i 3).val, (i 3).isLt⟩

/-- The frames of `x` the subsampling keeps. -/
def sampled {α : Type} (x : S3x128x256x256.Idx → α) : S3x32x256x256.Idx → α := fun i => x (pick i)

/-! ## The constants and the conversions -/

/-- The pattern of 127. -/
theorem bits_127 : Ideal.ofBits .f32 0x42FE0000#32 = ((127 : ℝ) : EReal) := by
  simp [Ideal.ofBits, Ideal.ieee, -EReal.coe_mul]; norm_num

/-- The pattern of 31. -/
theorem bits_31 : Ideal.ofBits .f32 0x41F80000#32 = ((31 : ℝ) : EReal) := by
  simp [Ideal.ofBits, Ideal.ieee, -EReal.coe_mul]; norm_num

/-- Truncating a nonnegative quotient of two naturals to a 32-bit integer is their division, when it fits. -/
theorem fptosi_quotient (n d : Nat) (hd : 0 < d) (h : n / d < 2 ^ 31) :
    Ideal.fptosi 32 (((n : ℝ) / (d : ℝ) : ℝ) : EReal) = BitVec.ofNat 32 (n / d) := by
  have hf : ⌊(n : ℝ) / (d : ℝ)⌋ = ((n / d : Nat) : Int) := by
    rw [Int.floor_eq_iff]
    refine ⟨?_, ?_⟩
    · rw [le_div_iff₀ (by exact_mod_cast hd)]
      exact_mod_cast Nat.div_mul_le_self n d
    · rw [div_lt_iff₀ (by exact_mod_cast hd)]
      exact_mod_cast Nat.lt_mul_of_div_lt (Nat.lt_succ_self (n / d)) hd
  have hp : (0 : ℝ) ≤ (n : ℝ) / (d : ℝ) := by positivity
  unfold Ideal.fptosi
  generalize n / d = q at h hf
  have h32 : ((2 ^ (32 - 1) : Nat) : Int) = 2147483648 := rfl
  have hlo : -((2 ^ (32 - 1) : Nat) : Int) ≤ (q : Int) := by omega
  have hhi : (q : Int) ≤ ((2 ^ (32 - 1) : Nat) : Int) - 1 := by omega
  rw [Ideal.toIntClamped_coe, if_pos hp, hf, min_eq_right hhi, max_eq_right hlo, BitVec.ofInt_natCast]

/-- The conversion of a small word to an extended real. -/
theorem sitofp_small (n : Nat) (h : n < 2 ^ 31) : ((((BitVec.ofNat 32 n).toInt : Int) : ℝ) : EReal) = ((n : ℝ) : EReal) := by
  rw [show (BitVec.ofNat 32 n).toInt = (n : Int) by
    rw [BitVec.toInt_eq_toNat_of_lt (by rw [BitVec.toNat_ofNat, Nat.mod_eq_of_lt (by omega)]; omega), BitVec.toNat_ofNat,
      Nat.mod_eq_of_lt (by omega)]]
  norm_cast

/-! ## Indices of vectors -/

/-- The index `k` of a vector. -/
def at1 {n : Nat} (k : Fin n) : (⟨1, ![n]⟩ : Shape).Idx
  | 0 => k

/-- A vector laid along one axis of a larger array, read at an index, is the vector at that axis's coordinate. -/
theorem along_apply {α : Type} {n : Nat} (hn : n ≠ 1) {t : Shape} (a : Fin t.rank) (h : (⟨1, ![n]⟩ : Shape).BroadcastsInDim t ![a])
    (x : (⟨1, ![n]⟩ : Shape).Idx → α) (j : t.Idx) (k : Fin n) (hk : k.val = (j a).val) :
    broadcastInDim t ![a] h x j = x (at1 k) :=
  broadcastInDim_apply ![a] h x j (at1 k) fun b => by
    match b with
    | 0 => exact hk.trans (if_neg hn).symm

/-! ## The ramp -/

/-- The ramp's first 31 entries, `0 (1 - j/31) + 127 (j/31)`. -/
def rampHead : FVec Ideal S31 .f32 :=
  (addf
    (mulf (broadcastInDim S31 ![0] bcast_S1_S31_0 (shapeCast _ (id (constant S_ .f32 0x00000000#32)) shapeCasts_S_S1)) (subf (broadcastInDim S31 ![] bcast_S_S31 (constant S_ .f32 0x3F800000#32)) (Host.divf (sitofp .f32 (iotaInDim S31 32 0)) (broadcastInDim S31 ![] bcast_S_S31 (constant S_ .f32 0x41F80000#32)))))
    (mulf (broadcastInDim S31 ![0] bcast_S1_S31_0 (shapeCast _ (id (constant S_ .f32 0x42FE0000#32)) shapeCasts_S_S1)) (Host.divf (sitofp .f32 (iotaInDim S31 32 0)) (broadcastInDim S31 ![] bcast_S_S31 (constant S_ .f32 0x41F80000#32)))))

/-- The ramp's last entry. -/
def rampLast : FVec Ideal S1 .f32 := (broadcastInDim S1 ![] bcast_S_S1 (id (constant S_ .f32 0x42FE0000#32)))

/-- The linear ramp. -/
def ramp : FVec Ideal S32 .f32 := concatenate S32 0 [⟨S31, rampHead⟩, ⟨S1, rampLast⟩] concatenates_S31_S1_S32_d0

theorem rampHead_apply (i : S31.Idx) : rampHead i = ((((i 0).val * 127 : Nat) : ℝ) / ((31 : Nat) : ℝ) : ℝ) := by
  have h0 : Ideal.div ((((BitVec.ofNat 32 (i 0).val).toInt : Int) : ℝ) : EReal) (Ideal.ofBits .f32 0x41F80000#32)
      = ((((i 0).val : ℝ) * (1 / 31) : ℝ) : EReal) := by
    have hi : (i 0).val < 31 := (i 0).isLt
    rw [sitofp_small _ (by omega), bits_31, Ideal.div_coe (by norm_num)]
    norm_cast
  have e : rampHead i = Ideal.ofBits .f32 0x00000000#32 * (Ideal.ofBits .f32 0x3F800000#32
        - Ideal.div ((((BitVec.ofNat 32 (i 0).val).toInt : Int) : ℝ) : EReal) (Ideal.ofBits .f32 0x41F80000#32))
      + Ideal.ofBits .f32 0x42FE0000#32
        * Ideal.div ((((BitVec.ofNat 32 (i 0).val).toInt : Int) : ℝ) : EReal) (Ideal.ofBits .f32 0x41F80000#32) := rfl
  rw [e, h0, Ideal.ofBits_zero_f32, zero_mul, zero_add, bits_127, ← EReal.coe_mul]
  congr 1
  push_cast
  ring

theorem rampLast_apply (i : S1.Idx) : rampLast i = ((127 : ℝ) : EReal) := bits_127

/-- Entry `j` of the ramp is `127 j / 31`. -/
theorem ramp_apply (j : S32.Idx) : ramp j = ((((j 0).val * 127 : Nat) : ℝ) / ((31 : Nat) : ℝ) : ℝ) := by
  by_cases h : (j 0).val < 31
  · have e : ramp j = rampHead (at1 ⟨(j 0).val, h⟩) :=
      concatenate_pair_apply_left (s₁ := S31) (s₂ := S1) 0 rampHead rampLast concatenates_S31_S1_S32_d0 j rfl (at1 ⟨(j 0).val, h⟩)
        fun b => by
          match b with
          | 0 => rfl
    rw [e, rampHead_apply]
    rfl
  · have hj : (j 0).val = 31 := by have : (j 0).val < 32 := (j 0).isLt; omega
    have e : ramp j = rampLast (at1 0) :=
      concatenate_pair_apply_right (s₁ := S31) (s₂ := S1) 0 rampHead rampLast concatenates_S31_S1_S32_d0 j rfl rfl (at1 0)
        (fun b hb => absurd (Subsingleton.elim (α := Fin 1) _ _) hb) hj.symm
    rw [e, rampLast_apply, hj]
    norm_num

/-! ## The integer positions -/

/-- The ramp clipped to `[0, 127]` and truncated. -/
def position : IVec S32 32 :=
  fptosi 32 (minimumf (broadcastInDim S32 ![] bcast_S_S32 (id (constant (F := Ideal) S_ .f32 0x42FE0000#32)))
    (maximumf (broadcastInDim S32 ![] bcast_S_S32 (id (constant (F := Ideal) S_ .f32 0x00000000#32))) ramp))

theorem position_apply (j : S32.Idx) : position j = BitVec.ofNat 32 (frameOf (j 0).val) := by
  have hj : (j 0).val < 32 := (j 0).isLt
  have e : position j = Ideal.fptosi 32 (min (Ideal.ofBits .f32 0x42FE0000#32) (max (Ideal.ofBits .f32 0x00000000#32) (ramp j))) := rfl
  have h0 : (0 : EReal) ≤ ((((j 0).val * 127 : Nat) : ℝ) / ((31 : Nat) : ℝ) : ℝ) := by
    rw [← EReal.coe_zero, EReal.coe_le_coe_iff]; positivity
  have h1 : ((((j 0).val * 127 : Nat) : ℝ) / ((31 : Nat) : ℝ) : ℝ) ≤ ((127 : ℝ) : EReal) := by
    rw [EReal.coe_le_coe_iff, div_le_iff₀ (by norm_num)]
    norm_cast
    omega
  rw [e, ramp_apply, Ideal.ofBits_zero_f32, bits_127, max_eq_right h0, min_eq_right h1,
    fptosi_quotient _ _ (by norm_num) (by omega)]
  rfl

/-- The positions after the wrap-around of negative ones. -/
def wrapped : IVec S32 32 :=
  select (cmpi .slt position (broadcastInDim S32 ![] bcast_S_S32 (constantI S_ 32 0#32)))
    (addi position (broadcastInDim S32 ![] bcast_S_S32 (constantI S_ 32 128#32))) position

/-- A frame number read as a signed word is itself. -/
theorem frame_toInt {j : Nat} (h : j < 32) : (BitVec.ofNat 32 (frameOf j)).toInt = (frameOf j : Int) := by
  have := frameOf_le h
  rw [BitVec.toInt_eq_toNat_of_lt (by rw [BitVec.toNat_ofNat, Nat.mod_eq_of_lt (by omega)]; omega), BitVec.toNat_ofNat,
    Nat.mod_eq_of_lt (by omega)]

/-- No position is negative. -/
theorem wrapped_apply (j : S32.Idx) : wrapped j = BitVec.ofNat 32 (frameOf (j 0).val) := by
  have e : wrapped j = (if IntOp.cmpi .slt (position j) 0#32 = 1 then position j + 128#32 else position j) := rfl
  have hn : (BitVec.ofNat 32 (frameOf (j 0).val)).slt 0#32 = false := by
    rw [BitVec.slt_eq_decide, frame_toInt (j 0).isLt, decide_eq_false_iff_not, BitVec.toInt_zero]
    omega
  rw [e, position_apply]
  show (if BitVec.ofBool ((BitVec.ofNat 32 (frameOf (j 0).val)).slt 0#32) = 1 then _ else _) = _
  rw [hn]
  exact if_neg (by decide)

/-! ## The gather -/

/-- The positions as the gather takes them, one column. -/
def column : IVec S32x1 32 := broadcastInDim S32x1 ![0] bcast_S32_S32x1_0 wrapped

theorem column_apply (i : S32x1.Idx) : column i = BitVec.ofNat 32 (frameOf (i 0).val) := by
  have e : column i = wrapped (at1 ⟨(i 0).val, (i 0).isLt⟩) :=
    along_apply (by decide) 0 bcast_S32_S32x1_0 wrapped i _ rfl
  rw [e, wrapped_apply]
  rfl

/-- Which positions are in range, as the reference asks it. -/
def inRange : IVec S32x1 1 :=
  andi (cmpi .sge column (broadcastInDim S32x1 ![] bcast_S_S32x1 (constantI S_ 32 0#32)))
    (cmpi .sle column (broadcastInDim S32x1 ![0, 1] bcast_S1x1_S32x1_0_1 (broadcastInDim S1x1 ![1] bcast_S1_S1x1_1 (constantI S1 32 127#32))))

/-- Every position is. -/
theorem inRange_apply (i : S32x1.Idx) : inRange i = 1#1 := by
  have e : inRange i = BitVec.ofBool ((0#32).sle (column i)) &&& BitVec.ofBool ((column i).sle 127#32) := rfl
  have := frameOf_le (i 0).isLt
  rw [e, column_apply, BitVec.sle_eq_decide, BitVec.sle_eq_decide, frame_toInt (i 0).isLt, BitVec.toInt_zero,
    decide_eq_true (by omega), decide_eq_true (by rw [show (127#32).toInt = 127 from rfl]; omega)]
  rfl

/-- Where the gather reads. -/
theorem operandIdx_eq (i : S3x32x256x256.Idx) :
    gather_S3x128x256x256_S32x1_S3x32x256x256_023_1_n_n_1_1_31256256.operandIdx i column = pick i := by
  funext a
  refine Fin.ext ?_
  fin_cases a
  · exact (Nat.zero_add _)
  · have h : (column (gather_S3x128x256x256_S32x1_S3x32x256x256_023_1_n_n_1_1_31256256.siIdx i ⟨0, Nat.one_pos⟩)).toInt.toNat
        = frameOf (i 1).val := by
      rw [column_apply]
      exact congrArg Int.toNat (frame_toInt (i 1).isLt)
    show min (column (gather_S3x128x256x256_S32x1_S3x32x256x256_023_1_n_n_1_1_31256256.siIdx i ⟨0, Nat.one_pos⟩)).toInt.toNat 127 + 0 + 0
      = frameOf (i 1).val
    rw [h]
    exact Nat.min_eq_left (frameOf_le (i 1).isLt)
  · exact (Nat.zero_add _)
  · exact (Nat.zero_add _)

/-- The reference's result, from the positions on. -/
def taken (x : S3x128x256x256.Idx → EReal) : S3x32x256x256.Idx → EReal :=
  select (broadcastInDim S3x32x256x256 ![1] bcast_S32_S3x32x256x256_1
      (Host.reduce IntOp.andi inRange (constantI S_ 1 1#1) reducesTo_S32x1_S32_d1 h_S_))
    (Host.gather gather_S3x128x256x256_S32x1_S3x32x256x256_023_1_n_n_1_1_31256256 x column)
    (broadcastInDim S3x32x256x256 ![] bcast_S_S3x32x256x256 (constant (F := Ideal) S_ .f32 0x7FC00000#32))

/-- It is the sampled array. -/
theorem taken_eq (x : S3x128x256x256.Idx → EReal) : taken x = sampled x := by
  funext i
  have hm : broadcastInDim S3x32x256x256 ![1] bcast_S32_S3x32x256x256_1
      (Host.reduce IntOp.andi inRange (constantI S_ 1 1#1) reducesTo_S32x1_S32_d1 h_S_) i = 1#1 := by
    rw [along_apply (by decide) 1 bcast_S32_S3x32x256x256_1 _ i ⟨(i 1).val, (i 1).isLt⟩ rfl]
    exact Host.reduce_andi_one _ _ _ _ _ rfl inRange_apply
  show (if broadcastInDim S3x32x256x256 ![1] bcast_S32_S3x32x256x256_1
      (Host.reduce IntOp.andi inRange (constantI S_ 1 1#1) reducesTo_S32x1_S32_d1 h_S_) i = 1 then
        x (gather_S3x128x256x256_S32x1_S3x32x256x256_023_1_n_n_1_1_31256256.operandIdx i column) else _) = x (pick i)
  exact (if_pos hm).trans (congrArg x (operandIdx_eq i))

/-! ## The reference's run -/

/-- The result the reference's run ends with is the sampled array of its argument. -/
theorem result_eq (m : (ℓ : Loc nD τ sig) → Buf (Elt Ideal) ℓ) (c : Dev nD) :
    Cert.ReferenceIdeal.Value.res_out0 m c = sampled (m ((c.tc : Thread nD τ).loc main_arg0)) :=
  (show Cert.ReferenceIdeal.Value.res_out0 m c = taken (m ((c.tc : Thread nD τ).loc main_arg0)) from rfl).trans (taken_eq _)

/-- `Cert.quiescent_ReferenceIdeal`. -/
theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

end Cert.Proof.Frames

end
-- ==== Proof.Value.lean ====
/-
  The kernel's value, and the claim that it is the reference's. The kernel's result is the input flattened, its rows
  copied by `OUT`, and reshaped back. Read at an index that is the sampled array of the input, which is what the
  reference's run ends with.
-/
module

public import proofs.«01_k».proof.Defs
public import proofs.«01_k».proof.Proof.Launch
public import proofs.«01_k».proof.Proof.Frames
public import Idealize.ShloMosaic.Lib.Pipeline.Value

@[expose] public section

set_option maxRecDepth 16384

noncomputable section

namespace Cert.Proof.Result

open Cert.KernelIdeal Cert.KernelIdeal.Gen Cert.Proof.Geometry Cert.Proof.Launch Cert.Proof.Frames
open Idealize.ShloMosaic Idealize.ShloMosaic.TcCoe Idealize.SL.Sem

variable {F : FTy → Type} [FloatOps F]
variable (m : (ℓ : Loc nD τ sig) → Buf (Elt F) ℓ)

/-- Where the flattened output holds the element `(c, j, a, b)` of the result: row `32 c + j`, column `256 a + b`. -/
def flatOut (i : S3x32x256x256.Idx) : S96x65536.Idx
  | 0 => ⟨(i 0).val * 32 + (i 1).val, by
      have h0 : (i 0).val < 3 := (i 0).isLt
      have h1 : (i 1).val < 32 := (i 1).isLt
      show _ < 96; omega⟩
  | 1 => ⟨(i 2).val * 256 + (i 3).val, by
      have h2 : (i 2).val < 256 := (i 2).isLt
      have h3 : (i 3).val < 256 := (i 3).isLt
      show _ < 65536; omega⟩

/-- The result at an index is the flattened output at `flatOut` of it. -/
theorem V3_apply (d : Dev nD) (i : S3x32x256x256.Idx) :
    (show S3x32x256x256.Idx → Elt F .f32 from V3 m d r') i = OUT (XF m d) (flatOut i) := by
  have e : V3 m d r' = shapeCast S3x32x256x256 (show S96x65536.Idx → Elt F .f32 from V2 m d o') shapeCasts_S96x65536_S3x32x256x256 :=
    StableHlo.reshape_result _ _ _ _ _ _ _
  show (show S3x32x256x256.Idx → Elt F .f32 from V3 m d r') i = _
  rw [e]
  refine (shapeCast_apply _ _ i (flatOut i) ?_).trans (congrFun (V2_o m d) (flatOut i))
  rw [Shape.rowMajor_val_two, Shape.rowMajor_val_four]
  show ((i 0).val * 32 + (i 1).val) * 65536 + ((i 2).val * 256 + (i 3).val) = _
  show _ = (((i 0).val * 32 + (i 1).val) * 256 + (i 2).val) * 256 + (i 3).val
  omega

/-- The flattened input at the row and column the output's word is copied from is the input at the sampled frame. -/
theorem XF_apply (d : Dev nD) (i : S3x32x256x256.Idx) :
    XF m d (srcIdx (flatOut i)) = (show S3x128x256x256.Idx → Elt F .f32 from m (aLoc d)) (pick i) := by
  have e : XF m d = shapeCast S384x65536 (show S3x128x256x256.Idx → Elt F .f32 from V0 m d a') shapeCasts_S3x128x256x256_S384x65536 := by
    show (opIn (F := F)).result (V0 m d) x' = _
    exact StableHlo.reshape_result _ _ _ _ _ _ _
  rw [e]
  refine shapeCast_apply _ _ _ (pick i) ?_
  rw [Shape.rowMajor_val_two, Shape.rowMajor_val_four]
  have h0 : (i 0).val < 3 := (i 0).isLt
  have h1 : (i 1).val < 32 := (i 1).isLt
  show (((i 0).val * 128 + (i 1).val * 127 / 31) * 256 + (i 2).val) * 256 + (i 3).val
    = (((i 0).val * 32 + (i 1).val) / 32 * 128 + ((i 0).val * 32 + (i 1).val) % 32 * 127 / 31) * 65536 + ((i 2).val * 256 + (i 3).val)
  rw [show ((i 0).val * 32 + (i 1).val) / 32 = (i 0).val by omega, show ((i 0).val * 32 + (i 1).val) % 32 = (i 1).val by omega]
  omega

/-- The kernel's result is the sampled array of its argument, at every type of words. -/
theorem V3_eq (d : Dev nD) :
    (show S3x32x256x256.Idx → Elt F .f32 from V3 m d r') = sampled (show S3x128x256x256.Idx → Elt F .f32 from m (aLoc d)) :=
  funext fun i => (V3_apply m d i).trans (XF_apply m d i)

/-- `Cert.algebraic_KernelIdeal_ReferenceIdeal`: from equal arguments the kernel and the reference end with equal results. -/
theorem algebraic : Cert.algebraic_KernelIdeal_ReferenceIdeal := by
  intro m ρ m' ρ' _ hagree
  refine ⟨fun c => V3 m c r', (θ_run Cert.KernelIdeal.defs _ _).mono (fun r h c => ⟨(h.1 c).2, (h.1 c).1⟩) (run_main (F := Ideal) m ρ),
    (θ_run Cert.ReferenceIdeal.defs _ _).mono (fun r h c => ⟨(h c).1.trans ?_, (h c).2⟩)
      (Cert.ReferenceIdeal.Value.run (F := Ideal) m' ρ')⟩
  refine (result_eq m' c).trans ((congrArg sampled (hagree c)).trans (V3_eq m c).symm)

end Cert.Proof.Result

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All the claims: the three programs' frames, that the ideal program is the kernel's text read over the extended
    reals, and that kernel and reference end with equal results. -/
theorem claim : Cert.Claim := ⟨Cert.Kernel.Gen.facts, Cert.KernelIdeal.Gen.facts, Cert.ReferenceIdeal.Gen.facts,
  Launch.frame_kernel, Launch.frame_ideal, Frames.frame_reference, trivial, Result.algebraic⟩

end Cert.Proof

end
